-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_offsets [hPre_sorted_offsets : Cert.Pre_sorted_offsets.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_offsets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_offsets [hPre_sorted_offsets : Cert.Pre_sorted_offsets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_offsets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_offsets [hKernelIdeal : Cert.KernelIdeal.Facts] [hPre_sorted_offsets : Cert.Pre_sorted_offsets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_offsets m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_offsets [hReferenceIdeal : Cert.ReferenceIdeal.Facts] [hPre_sorted_offsets : Cert.Pre_sorted_offsets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_offsets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_offsets [hKernelIdeal : Cert.KernelIdeal.Facts] [hReferenceIdeal : Cert.ReferenceIdeal.Facts] [hPre_sorted_offsets : Cert.Pre_sorted_offsets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_offsets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_offsets : Cert.Pre_sorted_offsets.Facts),
    quiescent_Kernel (hKernel := hKernel)
    ∧ quiescent_KernelIdeal (hKernelIdeal := hKernelIdeal)
    ∧ quiescent_KernelIdeal_pre_sorted_offsets (hKernelIdeal := hKernelIdeal) (hPre_sorted_offsets := hPre_sorted_offsets)
    ∧ quiescent_ReferenceIdeal (hReferenceIdeal := hReferenceIdeal)
    ∧ quiescent_ReferenceIdeal_pre_sorted_offsets (hReferenceIdeal := hReferenceIdeal) (hPre_sorted_offsets := hPre_sorted_offsets)
    ∧ preserves_Kernel_KernelIdeal
    ∧ algebraic_KernelIdeal_ReferenceIdeal_pre_sorted_offsets (hKernelIdeal := hKernelIdeal) (hReferenceIdeal := hReferenceIdeal) (hPre_sorted_offsets := hPre_sorted_offsets)
-- ==== Pre_sorted_offsets.lean ====
abbrev S32768x512 : Shape := ⟨2, ![32768, 512]⟩
abbrev S16 : Shape := ⟨1, ![16]⟩
abbrev S1x512 : Shape := ⟨2, ![1, 512]⟩
abbrev S15 : Shape := ⟨1, ![15]⟩
abbrev S_ : Shape := ⟨0, ![]⟩
abbrev S1 : Shape := ⟨1, ![1]⟩

class Facts : Prop where
  slices_S16_S15_1 : S16.Slices ![1] S15
  slices_S16_S15_0 : S16.Slices ![0] S15
  reducesTo_S15_S_d0 : S15.ReducesTo [0] S_
  h_S_ : 0 < S_.numel
  slices_S16_S1_15 : S16.Slices ![15] S1
  shapeCasts_S1_S_ : S1.ShapeCasts S_

variable [Facts]

def fn {F : FTy → Type} [FloatOps F] (main_arg0 : FVec F S32768x512 .f32) (main_arg1 : IVec S16 32) (main_arg2 : FVec F S1x512 .f32) (main_arg3 : FVec F S1x512 .f32) : IVec S_ 1 :=
  let main_v0 : IVec S15 32 := (extractStridedSlice S15 ![1] · slices_S16_S15_1) main_arg1
  let main_v1 : IVec S15 32 := (extractStridedSlice S15 ![0] · slices_S16_S15_0) main_arg1
  let main_v2 : IVec S15 1 := cmpi .sge main_v0 main_v1
  let main_c : IVec S_ 1 := constantI S_ 1 1#1
  let main_v3 : IVec S_ 1 := (fun x v => Host.reduce IntOp.andi x v reducesTo_S15_S_d0 h_S_) main_v2 main_c
  let main_v4 : IVec S1 32 := (extractStridedSlice S1 ![15] · slices_S16_S1_15) main_arg1
  let main_v5 : IVec S_ 32 := shapeCast S_ main_v4 shapeCasts_S1_S_
  let main_c_0 : IVec S_ 32 := constantI S_ 32 32768#32
  let main_v6 : IVec S_ 1 := cmpi .sge main_v5 main_c_0
  let main_v7 : IVec S_ 1 := andi main_v3 main_v6
  main_v7
-- ==== Kernel.lean ====
abbrev S32768x512 : Shape := ⟨2, ![32768, 512]⟩
abbrev S16 : Shape := ⟨1, ![16]⟩
abbrev S1x512 : Shape := ⟨2, ![1, 512]⟩
abbrev S16x1 : Shape := ⟨2, ![16, 1]⟩
abbrev S_ : Shape := ⟨0, ![]⟩
abbrev S1x1 : Shape := ⟨2, ![1, 1]⟩
abbrev S15x1 : Shape := ⟨2, ![15, 1]⟩
abbrev S32x1024x512 : Shape := ⟨3, ![32, 1024, 512]⟩
abbrev S4x1024x512 : Shape := ⟨3, ![4, 1024, 512]⟩
abbrev S16x512 : Shape := ⟨2, ![16, 512]⟩
abbrev S32 : Shape := ⟨1, ![32]⟩
abbrev S1 : Shape := ⟨1, ![1]⟩
abbrev S1x1024x512 : Shape := ⟨3, ![1, 1024, 512]⟩
abbrev S1024x512 : Shape := ⟨2, ![1024, 512]⟩
abbrev S16x1024 : Shape := ⟨2, ![16, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S16, .i32⟩
  | .hbm, ⟨2, _⟩ => ⟨S1x512, .f32⟩
  | .hbm, ⟨3, _⟩ => ⟨S1x512, .f32⟩
  | .hbm, ⟨4, _⟩ => ⟨S16x1, .i32⟩
  | .hbm, ⟨5, _⟩ => ⟨S_, .i32⟩
  | .hbm, ⟨6, _⟩ => ⟨S1x1, .i32⟩
  | .hbm, ⟨7, _⟩ => ⟨S15x1, .i32⟩
  | .hbm, ⟨8, _⟩ => ⟨S16x1, .i32⟩
  | .hbm, ⟨9, _⟩ => ⟨S32768x512, .f32⟩
  | .local _ .vmem, ⟨0, _⟩ => ⟨S16x1, .i32⟩
  | .local _ .vmem, ⟨1, _⟩ => ⟨S16x1, .i32⟩
  | .local _ .vmem, ⟨2, _⟩ => ⟨S1x512, .f32⟩
  | .local _ .vmem, ⟨3, _⟩ => ⟨S1x512, .f32⟩
  | .local _ .vmem, ⟨4, _⟩ => ⟨S32x1024x512, .bf16⟩
  | .local _ .vmem, ⟨5, _⟩ => ⟨S4x1024x512, .f32⟩
  | .local _ .vmem, ⟨6, _⟩ => ⟨S4x1024x512, .f32⟩
  | .local _ .vmem, ⟨7, _⟩ => ⟨S16x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩
abbrev S16 : Shape := ⟨1, ![16]⟩
abbrev S1x512 : Shape := ⟨2, ![1, 512]⟩
abbrev S32768 : Shape := ⟨1, ![32768]⟩
abbrev S1x16 : Shape := ⟨2, ![1, 16]⟩
abbrev S32768x1 : Shape := ⟨2, ![32768, 1]⟩
abbrev S32768x16 : Shape := ⟨2, ![32768, 16]⟩
abbrev S_ : Shape := ⟨0, ![]⟩
abbrev S16x512 : Shape := ⟨2, ![16, 512]⟩
abbrev S16x1 : Shape := ⟨2, ![16, 1]⟩

abbrev nBuf : Space → Nat
  | .hbm => 45
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S16, .i32⟩
  | .hbm, ⟨2, _⟩ => ⟨S1x512, .f32⟩
  | .hbm, ⟨3, _⟩ => ⟨S1x512, .f32⟩
  | .hbm, ⟨4, _⟩ => ⟨S32768, .i32⟩
  | .hbm, ⟨5, _⟩ => ⟨S1x16, .i32⟩
  | .hbm, ⟨6, _⟩ => ⟨S32768x1, .i32⟩
  | .hbm, ⟨7, _⟩ => ⟨S32768x16, .i32⟩
  | .hbm, ⟨8, _⟩ => ⟨S32768x16, .i32⟩
  | .hbm, ⟨9, _⟩ => ⟨S32768x16, .i1⟩
  | .hbm, ⟨10, _⟩ => ⟨S32768x16, .i32⟩
  | .hbm, ⟨11, _⟩ => ⟨S_, .i32⟩
  | .hbm, ⟨12, _⟩ => ⟨S32768, .i32⟩
  | .hbm, ⟨13, _⟩ => ⟨S32768x512, .f32⟩
  | .hbm, ⟨14, _⟩ => ⟨S_, .f32⟩
  | .hbm, ⟨15, _⟩ => ⟨S16x512, .f32⟩
  | .hbm, ⟨16, _⟩ => ⟨S32768x1, .i32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16, .f32⟩
  | .hbm, ⟨21, _⟩ => ⟨S16x1, .f32⟩
  | .hbm, ⟨22, _⟩ => ⟨S_, .f32⟩
  | .hbm, ⟨23, _⟩ => ⟨S16x1, .f32⟩
  | .hbm, ⟨24, _⟩ => ⟨S16x1, .f32⟩
  | .hbm, ⟨25, _⟩ => ⟨S_, .f32⟩
  | .hbm, ⟨26, _⟩ => ⟨S16x1, .f32⟩
  | .hbm, ⟨27, _⟩ => ⟨S16x1, .f32⟩
  | .hbm, ⟨28, _⟩ => ⟨S16x512, .f32⟩
  | .hbm, ⟨29, _⟩ => ⟨S16x512, .f32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Proof.Loop.lean ====
/-
  The kernel function written as LOOPS over its thirty-two blocks of 1024 tokens: what the printed function
  (thousands of unrolled statements) does block by block, over one symbolic block number. The printed function is
  this one by unfolding (`kernel_eq`), so everything after this module is proved once for every block.
-/
module

public import proofs.«01_k».proof.Proof.Gen.KernelIdeal

@[expose] public section

noncomputable section

namespace Cert.Proof.Loop

open Cert.KernelIdeal Cert.KernelIdeal.Gen
open Idealize.ShloMosaic Idealize.SL.Sem

variable {F : FTy → Type} [FloatOps F]

/-! ## Offsets: block `k` of the tokens, slot `s` of a four-slot ring, row `k` of the stage, semaphore `k` -/

abbrev blkOff (k : Fin 32) : Fin 2 → Nat := ![1024 * k.val, 0]
abbrev slotOff (s : Fin 4) : Fin 3 → Nat := ![s.val, 0, 0]
abbrev stgOff (k : Fin 32) : Fin 3 → Nat := ![k.val, 0, 0]
abbrev semOff (k : Fin 32) : Fin 1 → Nat := ![k.val]

theorem blkOff_inb (k : Fin 32) : ∀ a, blkOff k a + S1024x512.size a ≤ S32768x512.size a := by
  have := k.isLt; intro a; fin_cases a
  · show 1024 * k.val + 1024 ≤ 32768; omega
  · show 0 + 512 ≤ 512; omega
theorem slotOff_inb (s : Fin 4) : ∀ a, slotOff s a + S1x1024x512.size a ≤ S4x1024x512.size a := by
  have := s.isLt; intro a; fin_cases a
  · show s.val + 1 ≤ 4; omega
  · show 0 + 1024 ≤ 1024; omega
  · show 0 + 512 ≤ 512; omega
theorem stgOff_inb (k : Fin 32) : ∀ a, stgOff k a + S1x1024x512.size a ≤ S32x1024x512.size a := by
  have := k.isLt; intro a; fin_cases a
  · show k.val + 1 ≤ 32; omega
  · show 0 + 1024 ≤ 1024; omega
  · show 0 + 512 ≤ 512; omega
theorem semOff_inb (k : Fin 32) : ∀ a, semOff k a + S1.size a ≤ S32.size a := by
  have := k.isLt; intro a; fin_cases a; show k.val + 1 ≤ 32; omega

abbrev slotR (s : Fin 4) : Rect S4x1024x512 := Rect.unit (s := S4x1024x512) (slotOff s) S1x1024x512.size (slotOff_inb s)
abbrev stgR (k : Fin 32) : Rect S32x1024x512 := Rect.unit (s := S32x1024x512) (stgOff k) S1x1024x512.size (stgOff_inb k)
abbrev blkR (k : Fin 32) : Rect S32768x512 := Rect.unit (s := S32768x512) (blkOff k) S1024x512.size (blkOff_inb k)
abbrev wR : Rect S16x512 := Rect.unit (s := S16x512) ![0, 0] S16x512.size inb_S16x512_S16x512_0_0
abbrev cR : Rect S16x1 := Rect.unit (s := S16x1) ![0, 0] S16x1.size inb_S16x1_S16x1_0_0
abbrev gR : Rect S1x512 := Rect.unit (s := S1x512) ![0, 0] S1x512.size inb_S1x512_S1x512_0_0

/-- A stage row is stored whole two-row words at a time. -/
theorem stg_packed (k : Fin 32) : (stgR k).PackedRows (EltTy.packing .bf16) := by revert k; decide

/-! ## The slot and the block after next of a block number -/

/-- The ring slot of block `k`. -/
abbrev sl (k : Fin 32) : Fin 4 := ⟨k.val % 4, Nat.mod_lt _ (by decide)⟩
/-- Block number `k`, for a number below 32. -/
abbrev bk (k : Nat) : Fin 32 := Fin.ofNat 32 k

/-! ## Views -/

/-- Block `k` of a token array. -/
abbrev blkOf (a : Memref sig .tc .hbm S32768x512 .f32) (k : Fin 32) : Memref sig .tc .hbm S1024x512 .f32 :=
  a.slice (blkR k) (fun _ => rfl)
/-- Slot `s` of a ring buffer. -/
abbrev slotOf (a : Memref sig .tc .vmem S4x1024x512 .f32) (s : Fin 4) : Memref sig .tc .vmem S1024x512 .f32 :=
  (a.slice (slotR s) (fun _ => rfl)).squeeze S1024x512 squeezes_S1x1024x512_S1024x512
/-- Semaphore `k` of an array of thirty-two. -/
abbrev semOf (a : DmaSems sig S32) (k : Fin 32) : DmaSems sig S_ :=
  (a.slice (Rect.unit (s := S32) (semOff k) S1.size (semOff_inb k))).squeeze S_ squeezes_S1_S_

/-! ## What one block computes -/

/-- The first token of block `k`. -/
abbrev base (k : Fin 32) : BitVec 32 := BitVec.ofNat 32 (1024 * k.val)

/-- Block `k`'s membership table: entry (b, t) is one when token `1024 k + t` lies in segment `b`, else zero. -/
def member (k : Fin 32) (lo hi : Vec F S16x1 .i32) : FVec F S16x1024 .f32 :=
  let tok : IVec S16x1024 32 := addi (broadcast S16x1024 (base k)) (iota .tc S16x1024 32 [1] iota_S16x1024_d1_w32)
  let l : IVec S16x1024 32 := broadcastTo S16x1024 (shapeCast S16x1 lo shapeCasts_S16x1_S16x1) broadcasts_S16x1_S16x1024
  let h : IVec S16x1024 32 := broadcastTo S16x1024 (shapeCast S16x1 hi shapeCasts_S16x1_S16x1) broadcasts_S16x1_S16x1024
  sitofp .f32 (extui 32 (andi (cmpi .sge tok l) (cmpi .slt tok h)) natLt_1_32)

/-- The running sums of squares after block `k` (`f` the block, `s` the sums before it). -/
def accNext (k : Fin 32) (f : Vec F S1x1024x512 .f32) (lo hi : Vec F S16x1 .i32) (s : Vec F S16x512 .f32) : FVec F S16x512 .f32 :=
  let b : FVec F S1024x512 .f32 := shapeCast S1024x512 f shapeCasts_S1x1024x512_S1024x512
  shapeCast S16x512 (addf s (matmul dot_S16x1024_S1024x512_S16x512_1_0_0_1_n_n none (member k lo hi) (mulf b b) (constant S16x512 .f32 0x00000000#32))) shapeCasts_S16x512_S16x512

/-- The block as the stage keeps it. -/
def stgNext (f : Vec F S1x1024x512 .f32) : FVec F S1x1024x512 .bf16 :=
  shapeCast S1x1024x512 (truncf .bf16 (shapeCast S1024x512 f shapeCasts_S1x1024x512_S1024x512) bitsLt_bf16_f32) shapeCasts_S1024x512_S1x1024x512

/-- The sums of squares before the first block. -/
def accZero : FVec F S16x512 .f32 :=
  shapeCast S16x512 (broadcast S16x512 (Scalar.ofBits .f32 0x00000000#32 : F .f32)) shapeCasts_S16x512_S16x512

/-- The scales: `gamma` times each segment's normalized response (`s` read twice, as the sums). -/
def scaleOf (s : Vec F S16x512 .f32) (g : Vec F S1x512 .f32) : FVec F S16x512 .f32 :=
  let r : FVec F S16x512 .f32 := sqrt s
  let m : FVec F S16x1 .f32 := divf (shapeCast S16x1 (multiReduction .add [1] S16 r 0x00000000#32 reduces_S16x512_S16 (.inl rfl) rfl) shapeCasts_S16_S16x1) (broadcast S16x1 (Scalar.ofBits .f32 0x44000000#32 : F .f32))
  let d : FVec F S16x1 .f32 := addf m (broadcast S16x1 (Scalar.ofBits .f32 0x358637BD#32 : F .f32))
  shapeCast S16x512 (mulf (broadcastTo S16x512 g broadcasts_S1x512_S16x512) (divf r (broadcastTo S16x512 d broadcasts_S16x1_S16x512))) shapeCasts_S16x512_S16x512

/-- Block `k` of the result, from its staged tokens, the segments' ends, the scales and `beta`. -/
def outNext (k : Fin 32) (f : Vec F S1x1024x512 .bf16) (lo hi : Vec F S16x1 .i32) (s : Vec F S16x512 .f32) (b : Vec F S1x512 .f32) : FVec F S1x1024x512 .f32 :=
  let x : FVec F S1024x512 .f32 := extf .f32 (shapeCast S1024x512 f shapeCasts_S1x1024x512_S1024x512) bitsLt_bf16_f32
  let w : FVec F S1024x512 .f32 := matmul dot_S16x1024_S16x512_S1024x512_0_0_1_1_n_n none (member k lo hi) s (constant S1024x512 .f32 0x00000000#32)
  shapeCast S1x1024x512 (addf (mulf x (addf (broadcast S1024x512 (Scalar.ofBits .f32 0x3F800000#32 : F .f32)) w)) (broadcastTo S1024x512 b broadcasts_S1x512_S1024x512)) shapeCasts_S1024x512_S1x1024x512

/-! ## The trips -/

abbrev P := Prog (TpuEff nD τ sig (Elt F) Λ₀ .tc) PUnit

section Trips
variable (arg0 : Memref sig .tc .hbm S32768x512 .f32) (arg1 : Memref sig .tc .vmem S16x1 .i32) (arg2 : Memref sig .tc .vmem S16x1 .i32)
  (arg3 : Memref sig .tc .vmem S1x512 .f32) (arg4 : Memref sig .tc .vmem S1x512 .f32) (arg5 : Memref sig .tc .hbm S32768x512 .f32)
  (arg6 : Memref sig .tc .vmem S32x1024x512 .bf16) (harg6 : arg6.IsWhole) (arg7 : Memref sig .tc .vmem S4x1024x512 .f32)
  (arg8 : Memref sig .tc .vmem S4x1024x512 .f32) (arg9 : Memref sig .tc .vmem S16x512 .f32) (arg10 : DmaSems sig S32) (arg11 : DmaSems sig S32)

/-- Start block `k`'s copy into its slot. -/
def issueIn (k : Fin 32) : P (F := F) :=
  Prog.lift (.enqueueDma (blkOf arg0 k) (.here (slotOf arg7 (sl k))) (.dma (semOf arg10 k).sem) (View.wordExact_bits rfl) ((View.wordExact_bits rfl).reshape _ _) ⟨Or.inl rfl, trivial⟩)

/-- Wait for block `k`, add its squares to the sums, stage it. -/
def sumTrip (k : Fin 32) : P (F := F) := do
  Prog.lift (.waitDma2 (semOf arg10 k).sem (blkOf arg0 k) (slotOf arg7 (sl k)) (View.wordExact_bits rfl) ((View.wordExact_bits rfl).reshape _ _))
  let f : Vec F S1x1024x512 .f32 ← Prog.lift (.load arg7 (slotR (sl k)).toLoadRect (View.loadsAt_vmem h_S1x1024x512))
  let lo : Vec F S16x1 .i32 ← Prog.lift (.load arg1 cR.toLoadRect (View.loadsAt_vmem h_S16x1))
  let hi : Vec F S16x1 .i32 ← Prog.lift (.load arg2 cR.toLoadRect (View.loadsAt_vmem h_S16x1))
  let s : Vec F S16x512 .f32 ← Prog.lift (.load arg9 wR.toLoadRect (View.loadsAt_vmem h_S16x512))
  let _s' : Vec F S16x512 .f32 ← Prog.lift (.load arg9 wR.toLoadRect (View.loadsAt_vmem h_S16x512))
  Prog.lift (.store arg9 wR (accNext k f lo hi s) Finset.univ (View.stores_vmem_bits_univ h_S16x512 rfl) (.inl rfl))
  let _t : Vec F S1x1024x512 .bf16 ← Prog.lift (.load arg6 (stgR k).toLoadRect (View.loadsAt_vmem h_S1x1024x512))
  Prog.lift (.store arg6 (stgR k) (stgNext f) Finset.univ (View.stores_vmem h_S1x1024x512 (harg6.storeExact_slice rfl _ (stg_packed k)) (fun _ => rfl)) (.inl rfl))

/-- Zero the sums. -/
def zeroSums : P (F := F) := do
  let _s : Vec F S16x512 .f32 ← Prog.lift (.load arg9 wR.toLoadRect (View.loadsAt_vmem h_S16x512))
  Prog.lift (.store arg9 wR (accZero (F := F)) Finset.univ (View.stores_vmem_bits_univ h_S16x512 rfl) (.inl rfl))

/-- Turn the sums into the scales. -/
def scaleSums : P (F := F) := do
  let s : Vec F S16x512 .f32 ← Prog.lift (.load arg9 wR.toLoadRect (View.loadsAt_vmem h_S16x512))
  let g : Vec F S1x512 .f32 ← Prog.lift (.load arg3 gR.toLoadRect (View.loadsAt_vmem h_S1x512))
  let _s' : Vec F S16x512 .f32 ← Prog.lift (.load arg9 wR.toLoadRect (View.loadsAt_vmem h_S16x512))
  Prog.lift (.store arg9 wR (scaleOf s g) Finset.univ (View.stores_vmem_bits_univ h_S16x512 rfl) (.inl rfl))

/-- Compute block `k` of the result in its slot and start its copy out. -/
def outTrip (k : Fin 32) : P (F := F) := do
  let f : Vec F S1x1024x512 .bf16 ← Prog.lift (.load arg6 (stgR k).toLoadRect (View.loadsAt_vmem h_S1x1024x512))
  let lo : Vec F S16x1 .i32 ← Prog.lift (.load arg1 cR.toLoadRect (View.loadsAt_vmem h_S16x1))
  let hi : Vec F S16x1 .i32 ← Prog.lift (.load arg2 cR.toLoadRect (View.loadsAt_vmem h_S16x1))
  let s : Vec F S16x512 .f32 ← Prog.lift (.load arg9 wR.toLoadRect (View.loadsAt_vmem h_S16x512))
  let b : Vec F S1x512 .f32 ← Prog.lift (.load arg4 gR.toLoadRect (View.loadsAt_vmem h_S1x512))
  let _o : Vec F S1x1024x512 .f32 ← Prog.lift (.load arg8 (slotR (sl k)).toLoadRect (View.loadsAt_vmem h_S1x1024x512))
  Prog.lift (.store arg8 (slotR (sl k)) (outNext k f lo hi s b) Finset.univ (View.stores_vmem_bits_univ h_S1x1024x512 rfl) (.inl rfl))
  Prog.lift (.enqueueDma (slotOf arg8 (sl k)) (.here (blkOf arg5 k)) (.dma (semOf arg11 k).sem) ((View.wordExact_bits rfl).reshape _ _) (View.wordExact_bits rfl) ⟨Or.inl rfl, trivial⟩)

/-- Wait for block `k`'s copy out. -/
def waitOut (k : Fin 32) : P (F := F) :=
  Prog.lift (.waitDma2 (semOf arg11 k).sem (slotOf arg8 (sl k)) (blkOf arg5 k) ((View.wordExact_bits rfl).reshape _ _) (View.wordExact_bits rfl))

/-- `n` trips from trip `k` on. -/
def trips (f : Nat → P (F := F)) : Nat → Nat → P (F := F)
  | _, 0 => pure ⟨⟩
  | k, n + 1 => f k >>= fun _ => trips f (k + 1) n

/-- Trip `k` of the first pass: the block summed and staged, the block four ahead started. -/
def pass1 (k : Nat) : P (F := F) :=
  sumTrip arg0 arg1 arg2 arg6 harg6 arg7 arg9 arg10 (bk k) >>= fun _ => if k + 4 < 32 then issueIn arg0 arg7 arg10 (bk (k + 4)) else pure ⟨⟩
/-- Trip `k` of the second pass: the copy out four back waited for, block `k` of the result computed and started out. -/
def pass2 (k : Nat) : P (F := F) :=
  (if 4 ≤ k then waitOut arg5 arg8 arg11 (bk (k - 4)) else pure ⟨⟩) >>= fun _ => outTrip arg1 arg2 arg4 arg5 arg6 arg8 arg9 arg11 (bk k)

/-- The whole kernel function. -/
def kernel : P (F := F) :=
  trips (fun k => issueIn arg0 arg7 arg10 (bk k)) 0 4 >>= fun _ =>
  zeroSums arg9 >>= fun _ =>
  trips (pass1 arg0 arg1 arg2 arg6 harg6 arg7 arg9 arg10) 0 32 >>= fun _ =>
  scaleSums arg3 arg9 >>= fun _ =>
  trips (pass2 arg1 arg2 arg4 arg5 arg6 arg8 arg9 arg11) 0 32 >>= fun _ =>
  trips (fun k => waitOut arg5 arg8 arg11 (bk k)) 28 4

end Trips

end Cert.Proof.Loop
-- ==== Proof.Vals.lean ====
/-
  What the kernel's buffers hold, as functions of its inputs, and the small facts about reading a buffer back after a
  store: a slot after its copy, the sums after a store, a stage row after its own store and after another row's.
-/
module

public import proofs.«01_k».proof.Proof.Loop
public import Idealize.ShloMosaic.Lib.Writes
public import Idealize.ShloMosaic.Lib.Pointwise

@[expose] public section

noncomputable section

namespace Cert.Proof.Loop

open Cert.KernelIdeal Cert.KernelIdeal.Gen
open Idealize.ShloMosaic Idealize.SL.Sem

variable {F : FTy → Type} [FloatOps F]

/-! ## The values, over the whole run -/

section Values
variable (X : S32768x512.Idx → F .f32) (lo hi : Vec F S16x1 .i32) (ga be : Vec F S1x512 .f32)

/-- Element (t, j) of block `k` in the whole array. -/
abbrev blkIx (k : Fin 32) (y : S1024x512.Idx) : S32768x512.Idx := (blkR k).emb y

/-- Block `k` of the tokens, as a slot holds it. -/
def tokBlk (k : Fin 32) : Vec F S1x1024x512 .f32 :=
  shapeCast S1x1024x512 (fun y : S1024x512.Idx => X (blkIx k y)) shapeCasts_S1024x512_S1x1024x512

/-- The sums of squares after the first `n` blocks. -/
def sumsAt : Nat → Vec F S16x512 .f32
  | 0 => accZero
  | n + 1 => accNext (bk n) (tokBlk X (bk n)) lo hi (sumsAt n)

/-- The scales the second pass uses. -/
def scales : Vec F S16x512 .f32 := scaleOf (sumsAt X lo hi 32) ga

/-- Block `k` of the result. -/
def outBlk (k : Fin 32) : Vec F S1x1024x512 .f32 := outNext k (stgNext (tokBlk X k)) lo hi (scales X lo hi ga) be
end Values

/-! ## Reading back -/

section Read
variable {Val : EltTy → Type} {sig : RefSig} {κ : Kind} {sp : Space} {s s' : Shape} {e : EltTy} (v : View sig κ sp s e)

/-- A load of a rectangle reads the rectangle's own view. -/
theorem readAt_slice (r : Rect s) (f : v.ty.Contents Val) : v.readAt Val r.toLoadRect f = (v.slice r).read Val f := rfl

/-- A whole unmasked write reads back as what was written. -/
theorem read_writes_whole (f : v.ty.Contents Val) (w : s.Idx → Val e) : v.read Val (v.writes Val f [⟨Rect.whole s, w⟩]) = w := by
  funext y
  have h := View.read_writes_cons_emb (v := v) (f := f) (Rect.whole s) w [] y
  rwa [show (Rect.whole s).emb y = y from by simp] at h

/-- Written through a reshaped part, read through the part: the payload reshaped. -/
theorem read_of_reshape (h : s'.numel = s.numel) (f : v.ty.Contents Val) :
    v.read Val f = fun y => (v.reshape s' h).read Val f ((Shape.reshapeEquiv h).symm y) := by
  funext y
  rw [View.read_apply, View.read_apply]
  simp

/-- A stored rectangle reads back as what was stored. -/
theorem readAt_writes_same (r : Rect s) (f : v.ty.Contents Val) (w : r.shape.Idx → Val e) :
    v.readAt Val r.toLoadRect (v.writes Val f [⟨r, w⟩]) = w := by
  rw [readAt_slice, View.writes_singleton, View.read_write_univ]

/-- A rectangle apart from the stored one reads as before. -/
theorem readAt_writes_apart (r r' : Rect s) (f : v.ty.Contents Val) (w : r'.shape.Idx → Val e) (h : Disjoint r.set r'.set) :
    v.readAt Val r.toLoadRect (v.writes Val f [⟨r', w⟩]) = v.readAt Val r.toLoadRect f := by
  rw [readAt_slice, readAt_slice, View.writes_singleton, View.read_slice_write_slice_of_disjoint]
  rw [View.setOn_univ, View.set_slice, View.set_slice]
  exact (Finset.disjoint_map _).mpr h
end Read

/-- Two rows of the stage are apart. -/
theorem stgR_disjoint {j k : Fin 32} (h : j ≠ k) : Disjoint (stgR j).set (stgR k).set := by
  rw [Finset.disjoint_left]
  intro y hj hk
  rw [Rect.mem_set_unit] at hj hk
  have h1 := hj 0
  have h2 := hk 0
  refine h (Fin.ext ?_)
  have e1 : j.val ≤ (y 0).val ∧ (y 0).val < j.val + 1 := h1
  have e2 : k.val ≤ (y 0).val ∧ (y 0).val < k.val + 1 := h2
  omega

end Cert.Proof.Loop
-- ==== Proof.Trips.lean ====
/-
  One trip of each loop, run once for every block: from the buffers it touches to what it leaves in them.
-/
module

public import proofs.«01_k».proof.Proof.Vals
public import proofs.«01_k».proof.Proof.Gen.KernelIdeal.Launch
public import Idealize.ShloMosaic.Lib.Pipeline.KitQuiescent
public import Idealize.ShloMosaic.Lib.Ring
public import Idealize.ShloMosaic.Lib.Tactic

@[expose] public section

noncomputable section

namespace Cert.Proof.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-! ## The kernel's own buffers -/

abbrev featM : Memref sig .tc .hbm S32768x512 .f32 := Memref.whole main_arg0
abbrev outM : Memref sig .tc .hbm S32768x512 .f32 := Memref.whole main_v0
abbrev stgM : Memref sig .tc .vmem S32x1024x512 .bf16 := Memref.whole cc0_scratch0
abbrev inM : Memref sig .tc .vmem S4x1024x512 .f32 := Memref.whole cc0_scratch1
abbrev ouM : Memref sig .tc .vmem S4x1024x512 .f32 := Memref.whole cc0_scratch2
abbrev sumM : Memref sig .tc .vmem S16x512 .f32 := Memref.whole cc0_scratch3

instance (s : Fin 4) : ClosedOff (slotOff s) := ⟨slotOff s, rfl⟩
instance (k : Fin 32) : ClosedOff (blkOff k) := ⟨blkOff k, rfl⟩
instance (k : Fin 32) : ClosedOff (stgOff k) := ⟨stgOff k, rfl⟩

section Pieces
variable (c : Dev nD) (XA : Buf (Elt F) (featM.view.loc (c : Thread nD τ)))

abbrev icellP (k : Fin 32) : sProp 𝕄 := semVal ((c : Thread nD τ), SemLoc.dma (semOf cc0_scratch4 k).sem) 0
abbrev ocellP (k : Fin 32) : sProp 𝕄 := semVal ((c : Thread nD τ), SemLoc.dma (semOf cc0_scratch5 k).sem) 0
abbrev islotP (s : Fin 4) (f : Buf (Elt F) ((slotOf inM s).view.loc (c : Thread nD τ))) : sProp 𝕄 :=
  (slotOf inM s).view.loc (c : Thread nD τ) ↦[(slotOf inM s).view.set]{fullShare} f
abbrev oslotP (s : Fin 4) (f : Buf (Elt F) ((slotOf ouM s).view.loc (c : Thread nD τ))) : sProp 𝕄 :=
  (slotOf ouM s).view.loc (c : Thread nD τ) ↦[(slotOf ouM s).view.set]{fullShare} f
abbrev homeP (k : Fin 32) : sProp 𝕄 :=
  (blkOf featM k).view.loc (c : Thread nD τ) ↦[(blkOf featM k).view.set]{fullShare} XA
abbrev outP (k : Fin 32) (f : Buf (Elt F) ((blkOf outM k).view.loc (c : Thread nD τ))) : sProp 𝕄 :=
  (blkOf outM k).view.loc (c : Thread nD τ) ↦[(blkOf outM k).view.set]{fullShare} f

abbrev colP (a : Memref sig .tc .vmem S16x1 .i32) (g : Buf (Elt F) (a.view.loc (c : Thread nD τ))) : sProp 𝕄 :=
  a.view.loc (c : Thread nD τ) ↦[a.view.set]{fullShare} g
abbrev rowP (a : Memref sig .tc .vmem S1x512 .f32) (g : Buf (Elt F) (a.view.loc (c : Thread nD τ))) : sProp 𝕄 :=
  a.view.loc (c : Thread nD τ) ↦[a.view.set]{fullShare} g
abbrev stgP (f : Buf (Elt F) (stgM.view.loc (c : Thread nD τ))) : sProp 𝕄 := stgM.view.loc (c : Thread nD τ) ↦{fullShare} f
abbrev sumP (f : Buf (Elt F) (sumM.view.loc (c : Thread nD τ))) : sProp 𝕄 := sumM.view.loc (c : Thread nD τ) ↦{fullShare} f

/-- What block `k`'s copy leaves in its slot over prior contents `f`. -/
abbrev landed (k : Fin 32) (f : Buf (Elt F) ((slotOf inM (sl k)).view.loc (c : Thread nD τ))) : Buf (Elt F) ((slotOf inM (sl k)).view.loc (c : Thread nD τ)) :=
  (slotOf inM (sl k)).view.writes (Elt F) f [⟨Rect.whole S1024x512, ReadAs.same.apply ((blkOf featM k).view.read (Elt F) XA)⟩]
abbrev flightP (k : Fin 32) (f : Buf (Elt F) ((slotOf inM (sl k)).view.loc (c : Thread nD τ))) : sProp 𝕄 :=
  Transfers.Flight countersEmb (c : Thread nD τ) (SemLoc.dma (semOf cc0_scratch4 k).sem) () 65536 iprop(islotP c (sl k) (landed c XA k f) ∗ homeP c XA k)

/-- Starting block `k`'s copy: its slot, its home and its cell go into the flight. -/
theorem issueIn_run (k : Fin 32) (f) (W : Waits sig Unit) (Q : PUnit → sProp 𝕄) :
    iprop(homeP c XA k ∗ islotP c (sl k) f ∗ icellP c k ∗ owes (c : Thread nD τ) 0 W ∗ (flightP c XA k f ∗ owes (c : Thread nD τ) 0 W -∗ Q ⟨⟩))
    ⊢ wp frame (wpE (defs₀ (F := F)) 𝒱₀ (c : Thread nD τ) none) Set.univ (issueIn featM inM cc0_scratch4 k) Q := by
  iintro ⟨Hh, Hs, Hc, HW, Hk⟩
  unfold issueIn
  sl_exec
  sl_step
  iapply Hk
  isplitl [Hc]
  · iexact Hc
  · iexact HW

/-- Block `k`'s slot, loaded after its copy, is block `k` of the tokens. -/
theorem slot_read (k : Fin 32) (f : Buf (Elt F) ((slotOf inM (sl k)).view.loc (c : Thread nD τ))) :
    inM.view.readAt (Elt F) (slotR (sl k)).toLoadRect (landed c XA k f) = tokBlk XA k := by
  refine (readAt_slice inM.view (slotR (sl k)) (landed c XA k f)).trans ?_
  refine (read_of_reshape (Val := Elt F) (inM.view.slice (slotR (sl k))) squeezes_S1x1024x512_S1024x512.numel_eq _).trans ?_
  have h : (slotOf inM (sl k)).view.read (Elt F) (landed c XA k f) = (blkOf featM k).view.read (Elt F) XA := read_writes_whole _ _ _
  funext y
  have h' := congrFun h ((Shape.reshapeEquiv squeezes_S1x1024x512_S1024x512.numel_eq).symm y)
  refine h'.trans ?_
  unfold tokBlk
  have e : (Shape.reshapeEquiv squeezes_S1x1024x512_S1024x512.numel_eq).symm y = Shape.reshapeEquiv shapeCasts_S1024x512_S1x1024x512 y := by
    rw [Shape.reshapeEquiv_symm]
  rw [e]
  rfl

/-- One trip of the first pass: the copy of block `k` is waited for, its squares are added to the sums, and it is staged. -/
theorem sumTrip_run (arg1 arg2 : Memref sig .tc .vmem S16x1 .i32) (k : Fin 32) (f f6 f9) (g1 g2) (W : Waits sig Unit) :
    iprop(flightP c XA k f ∗ owes (c : Thread nD τ) 0 W ∗ colP c arg1 g1 ∗ colP c arg2 g2 ∗ stgP c f6 ∗ sumP c f9)
    ⊢ wp frame (wpE (defs₀ (F := F)) 𝒱₀ (c : Thread nD τ) none) Set.univ (sumTrip featM arg1 arg2 stgM (Memref.isWhole_whole _) inM sumM cc0_scratch4 k)
      (fun _ => iprop((homeP c XA k ∗ icellP c k ∗ ∃ f', islotP c (sl k) f') ∗ (∃ W', owes (c : Thread nD τ) 0 W') ∗ colP c arg1 g1 ∗ colP c arg2 g2
        ∗ stgP c (stgM.view.writes (Elt F) f6 [⟨stgR k, stgNext (tokBlk XA k)⟩])
        ∗ sumP c (sumM.view.writes (Elt F) f9 [⟨wR, accNext k (tokBlk XA k) (arg1.view.readAt (Elt F) cR.toLoadRect g1) (arg2.view.readAt (Elt F) cR.toLoadRect g2) (sumM.view.readAt (Elt F) wR.toLoadRect f9)⟩]))) := by
  iintro ⟨Hc, HW, H1, H2, H6, H9⟩
  unfold sumTrip
  sl_exec
  sl_step
  have e : sumTrip_run.sl.f c XA k = tokBlk XA k := slot_read c XA k _
  rw [e]
  isplitl [Hc Hc_src Hc_dst]
  · isplitl [Hc_src]
    · iexact Hc_src
    isplitl [Hc]
    · iexact Hc
    iexists _
    iexact Hc_dst
  isplitl [HW]
  · iexists _
    iexact HW
  isplitl [H1]
  · iexact H1
  isplitl [H2]
  · iexact H2
  isplitl [H6]
  · iexact H6
  iexact H9

/-- What block `k`'s copy out leaves in its rows of the result. -/
abbrev outFlat (w : Vec F S1x1024x512 .f32) : Vec F S1024x512 .f32 := shapeCast S1024x512 w shapeCasts_S1x1024x512_S1024x512

/-- Block `k`'s copy out in flight, delivering the values `w` into its rows and the slot back. -/
abbrev oflightP (k : Fin 32) (w : Vec F S1x1024x512 .f32) : sProp 𝕄 :=
  iprop(∃ f5 f, Transfers.Flight countersEmb (c : Thread nD τ) (SemLoc.dma (semOf cc0_scratch5 k).sem) () 65536
    iprop(outP (F := F) c k ((blkOf outM k).view.writes (Elt F) f5 [⟨Rect.whole S1024x512, outFlat w⟩]) ∗ oslotP (F := F) c (sl k) f))

/-- One trip of the second pass: block `k` of the result goes into its slot and starts out. -/
theorem outTrip_run (arg1 arg2 : Memref sig .tc .vmem S16x1 .i32) (arg4 : Memref sig .tc .vmem S1x512 .f32) (k : Fin 32) (f f5 f6 f9) (g1 g2 g4) (W : Waits sig Unit) :
    iprop(oslotP c (sl k) f ∗ outP c k f5 ∗ ocellP c k ∗ owes (c : Thread nD τ) 0 W ∗ colP c arg1 g1 ∗ colP c arg2 g2 ∗ rowP c arg4 g4 ∗ stgP c f6 ∗ sumP c f9)
    ⊢ wp frame (wpE (defs₀ (F := F)) 𝒱₀ (c : Thread nD τ) none) Set.univ (outTrip arg1 arg2 arg4 outM stgM ouM sumM cc0_scratch5 k)
      (fun _ => iprop(oflightP c k (outNext k (stgM.view.readAt (Elt F) (stgR k).toLoadRect f6) (arg1.view.readAt (Elt F) cR.toLoadRect g1) (arg2.view.readAt (Elt F) cR.toLoadRect g2)
            (sumM.view.readAt (Elt F) wR.toLoadRect f9) (arg4.view.readAt (Elt F) gR.toLoadRect g4))
        ∗ owes (c : Thread nD τ) 0 W ∗ colP c arg1 g1 ∗ colP c arg2 g2 ∗ rowP c arg4 g4 ∗ stgP c f6 ∗ sumP c f9)) := by
  iintro ⟨Hs, Ho, Hc, HW, H1, H2, H4, H6, H9⟩
  unfold outTrip
  sl_exec
  sl_step
  have e : outTrip_run.sl.dma7 c arg1 arg2 arg4 k f f6 f9 g1 g2 g4 = outFlat (outNext k (stgM.view.readAt (Elt F) (stgR k).toLoadRect f6) (arg1.view.readAt (Elt F) cR.toLoadRect g1) (arg2.view.readAt (Elt F) cR.toLoadRect g2)
            (sumM.view.readAt (Elt F) wR.toLoadRect f9) (arg4.view.readAt (Elt F) gR.toLoadRect g4)) := by
    funext y
    exact congrFun (View.read_write_univ (v := ouM.access (slotR (sl k))) (Val := Elt F) f _) (Shape.reshapeEquiv shapeCasts_S1x1024x512_S1024x512 y)
  rw [e]
  isplitl [Hc]
  · iexists _
    iexists _
    iexact Hc
  isplitl [HW]
  · iexact HW
  isplitl [H1]
  · iexact H1
  isplitl [H2]
  · iexact H2
  isplitl [H4]
  · iexact H4
  isplitl [H6]
  · iexact H6
  iexact H9

/-- Waiting for block `k`'s copy out: its rows hold the block, and its cell and slot are back. -/
theorem waitOut_run (k : Fin 32) (w : Vec F S1x1024x512 .f32) (W : Waits sig Unit) :
    iprop(oflightP c k w ∗ owes (c : Thread nD τ) 0 W)
    ⊢ wp frame (wpE (defs₀ (F := F)) 𝒱₀ (c : Thread nD τ) none) Set.univ (waitOut outM ouM cc0_scratch5 k)
      (fun _ => iprop((∃ f5, outP (F := F) c k ((blkOf outM k).view.writes (Elt F) f5 [⟨Rect.whole S1024x512, outFlat w⟩])) ∗ ocellP c k ∗ (∃ f, oslotP (F := F) c (sl k) f) ∗ (∃ W', owes (c : Thread nD τ) 0 W'))) := by
  iintro ⟨⟨%f5, %f, Hc⟩, HW⟩
  unfold waitOut
  sl_exec
  sl_step
  isplitl [Hc_dst]
  · iexists _
    iexact Hc_dst
  isplitl [Hc]
  · iexact Hc
  isplitl [Hc_src]
  · iexists _
    iexact Hc_src
  iexists _
  iexact HW

/-- The sums are set to zero. -/
theorem zeroSums_run (f9) :
    sumP c f9 ⊢ wp frame (wpE (defs₀ (F := F)) 𝒱₀ (c : Thread nD τ) none) Set.univ (zeroSums sumM) (fun _ => sumP c (sumM.view.writes (Elt F) f9 [⟨wR, accZero⟩])) := by
  iintro H9
  unfold zeroSums
  sl_exec
  sl_step
  iexact H9

/-- The sums are turned into the scales. -/
theorem scaleSums_run (arg3 : Memref sig .tc .vmem S1x512 .f32) (f9 g3) :
    iprop(sumP c f9 ∗ rowP c arg3 g3) ⊢ wp frame (wpE (defs₀ (F := F)) 𝒱₀ (c : Thread nD τ) none) Set.univ (scaleSums arg3 sumM)
      (fun _ => iprop(sumP c (sumM.view.writes (Elt F) f9 [⟨wR, scaleOf (sumM.view.readAt (Elt F) wR.toLoadRect f9) (arg3.view.readAt (Elt F) gR.toLoadRect g3)⟩]) ∗ rowP c arg3 g3)) := by
  iintro ⟨H9, H3⟩
  unfold scaleSums
  sl_exec
  sl_step
  isplitl [H9]
  · iexact H9
  iexact H3
end Pieces

end Cert.Proof.Loop
-- ==== Proof.Passes.lean ====
/-
  The two passes, by induction over their trips: which blocks are home, in flight or done after each trip, and what the
  stage, the sums and the result hold.
-/
module

public import proofs.«01_k».proof.Proof.Trips

@[expose] public section

noncomputable section

namespace Cert.Proof.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## One or two members of a product changed -/

/-- One member taken out of a product, to be put back changed. -/
theorem focus1 {n : Nat} (Φ Φ' : Fin n → sProp 𝕄) (a : Fin n) (h : ∀ j, j ≠ a → Φ j = Φ' j) :
    bigSep Finset.univ Φ ⊢ iprop(Φ a ∗ (Φ' a -∗ bigSep Finset.univ Φ')) := by
  have e : bigSep Finset.univ Φ = iprop(Φ a ∗ bigSep (Finset.univ.erase a) Φ) := bigSep_erase (Finset.mem_univ a)
  have e' : bigSep Finset.univ Φ' = iprop(Φ' a ∗ bigSep (Finset.univ.erase a) Φ') := bigSep_erase (Finset.mem_univ a)
  rw [e, e', bigSep_congr (s := Finset.univ.erase a) (Φ := Φ) (Ψ := Φ') fun j hj => h j (Finset.ne_of_mem_erase hj)]
  iintro ⟨Ha, Hr⟩
  isplitl [Ha]
  · iexact Ha
  iintro Ha'
  isplitl [Ha']
  · iexact Ha'
  iexact Hr

/-- Two members taken out of a product, to be put back changed. -/
theorem focus2 {n : Nat} (Φ Φ' : Fin n → sProp 𝕄) (a b : Fin n) (hab : b ≠ a) (h : ∀ j, j ≠ a → j ≠ b → Φ j = Φ' j) :
    bigSep Finset.univ Φ ⊢ iprop(Φ a ∗ Φ b ∗ (Φ' a -∗ Φ' b -∗ bigSep Finset.univ Φ')) := by
  have hb : b ∈ Finset.univ.erase a := Finset.mem_erase.mpr ⟨hab, Finset.mem_univ _⟩
  have e (Ψ : Fin n → sProp 𝕄) : bigSep Finset.univ Ψ = iprop(Ψ a ∗ Ψ b ∗ bigSep ((Finset.univ.erase a).erase b) Ψ) := by
    rw [bigSep_erase (Finset.mem_univ a), bigSep_erase hb]
    rfl
  rw [e, e, bigSep_congr (s := (Finset.univ.erase a).erase b) (Φ := Φ) (Ψ := Φ') fun j hj =>
      h j (Finset.ne_of_mem_erase (Finset.mem_of_mem_erase hj)) (Finset.ne_of_mem_erase hj)]
  iintro ⟨Ha, Hb, Hr⟩
  isplitl [Ha]
  · iexact Ha
  isplitl [Hb]
  · iexact Hb
  iintro Ha'
  iintro Hb'
  isplitl [Ha']
  · iexact Ha'
  isplitl [Hb']
  · iexact Hb'
  iexact Hr

/-! ## Programs in sequence -/

section Seq
variable (c : Dev nD)

/-- The weakest precondition of a piece of the kernel on core `c`. -/
abbrev wpc (p : P (F := F)) (Q : PUnit → sProp 𝕄) : sProp 𝕄 :=
  wp frame (wpE (defs₀ (F := F)) 𝒱₀ (c : Thread nD τ) none) Set.univ p Q

/-- One piece after another. -/
theorem seq_run {A B : sProp 𝕄} {p q : P (F := F)} {Q : PUnit → sProp 𝕄} (h : A ⊢ wpc c p fun _ => B) (h' : B ⊢ wpc c q Q) :
    A ⊢ wpc c (p >>= fun _ => q) Q := by
  show A ⊢ wp _ _ _ _ _
  rw [wp_bind]
  exact h.trans (wp_mono _ _ _ fun _ => h')

/-- The empty piece. -/
theorem nil_run {A : sProp 𝕄} : A ⊢ wpc c (pure ⟨⟩ : P (F := F)) fun _ => A := by
  show A ⊢ wp _ _ _ _ _
  rw [wp_pure]
  iintro H
  imodintro
  iexact H

/-- A loop keeps what each of its trips keeps. -/
theorem trips_run (I : Nat → sProp 𝕄) (f : Nat → P (F := F)) (a b : Nat) (h : ∀ k, a ≤ k → k < b → I k ⊢ wpc c (f k) fun _ => I (k + 1)) :
    ∀ n k, a ≤ k → k + n ≤ b → I k ⊢ wpc c (trips f k n) fun _ => I (k + n)
  | 0, k, _, _ => nil_run c
  | n + 1, k, ha, hb => by
    have e : k + (n + 1) = (k + 1) + n := by omega
    rw [e]
    exact seq_run c (h k ha (by omega)) (trips_run I f a b h n (k + 1) (by omega) (by omega))
end Seq

/-! ## The first pass -/

theorem bk_val {k : Nat} (h : k < 32) : (bk k).val = k := by
  show k % 32 = k
  omega

section Pass1
variable (c : Dev nD) (XA : Buf (Elt F) (featM.view.loc (c : Thread nD τ)))

/-- A slot of the in ring at anything. -/
abbrev freeI (s : Fin 4) : sProp 𝕄 := iprop(∃ f, islotP (F := F) c s f)
/-- A slot of the out ring at anything. -/
abbrev freeO (s : Fin 4) : sProp 𝕄 := iprop(∃ f, oslotP (F := F) c s f)
/-- Block `k` in flight. -/
abbrev flyI (k : Fin 32) : sProp 𝕄 := iprop(∃ f, flightP c XA k f)

/-- Where block `j`'s copy in stands when `w` blocks are summed and `n` are started. -/
def stI (w n : Nat) (j : Fin 32) : sProp 𝕄 :=
  if j.val < w then iprop(homeP c XA j ∗ icellP (F := F) c j ∗ if 28 ≤ j.val then freeI (F := F) c (sl j) else emp)
  else if j.val < n then flyI c XA j
  else iprop(homeP c XA j ∗ icellP (F := F) c j ∗ if j.val < 4 then freeI (F := F) c (sl j) else emp)

theorem stI_done {w n : Nat} {j : Fin 32} (h : j.val < w) : stI c XA w n j = iprop(homeP c XA j ∗ icellP (F := F) c j ∗ if 28 ≤ j.val then freeI (F := F) c (sl j) else emp) := by
  unfold stI; rw [if_pos h]
theorem stI_fly {w n : Nat} {j : Fin 32} (h : ¬ j.val < w) (h' : j.val < n) : stI c XA w n j = flyI c XA j := by
  unfold stI; rw [if_neg h, if_pos h']
theorem stI_home {w n : Nat} {j : Fin 32} (h : ¬ j.val < w) (h' : ¬ j.val < n) :
    stI c XA w n j = iprop(homeP c XA j ∗ icellP (F := F) c j ∗ if j.val < 4 then freeI (F := F) c (sl j) else emp) := by
  unfold stI; rw [if_neg h, if_neg h']
theorem stI_other {w n w' n' : Nat} {j : Fin 32} (h : (j.val < w ↔ j.val < w')) (h' : (j.val < n ↔ j.val < n')) : stI c XA w n j = stI c XA w' n' j := by
  unfold stI; simp only [h, h']

/-- Starting one of the first four copies. -/
theorem issue_step (k : Nat) (hk : k < 4) :
    iprop((∃ W, owes (c : Thread nD τ) 0 W) ∗ bigSep Finset.univ (stI c XA 0 k))
    ⊢ wpc c (issueIn featM inM cc0_scratch4 (bk k)) fun _ => iprop((∃ W, owes (c : Thread nD τ) 0 W) ∗ bigSep Finset.univ (stI c XA 0 (k + 1))) := by
  have hv := bk_val (show k < 32 by omega)
  iintro ⟨⟨%W, HW⟩, HB⟩
  ihave HB' := (focus1 (stI c XA 0 k) (stI c XA 0 (k + 1)) (bk k) (fun j hj => stI_other c XA Iff.rfl (by
    have : j.val ≠ k := fun h => hj (Fin.ext (h.trans hv.symm))
    omega))) $$ HB
  icases HB' with ⟨Hk, Hb⟩
  ihave Hk' := (Entails.of_eq ((stI_home c XA (by omega) (by omega)).trans (by rw [if_pos (show (bk k).val < 4 by omega)]))) $$ Hk
  icases Hk' with ⟨Hh, Hc, ⟨%f, Hs⟩⟩
  iapply (issueIn_run c XA (bk k) f W)
  isplitl [Hh]
  · iexact Hh
  isplitl [Hs]
  · iexact Hs
  isplitl [Hc]
  · iexact Hc
  isplitl [HW]
  · iexact HW
  iintro ⟨Hf, HW⟩
  isplitl [HW]
  · iexists _
    iexact HW
  iapply Hb
  iapply (Entails.of_eq (stI_fly c XA (show ¬ (bk k).val < 0 by omega) (show (bk k).val < k + 1 by omega)).symm)
  iexists _
  iexact Hf

theorem freeI_move {s s' : Fin 4} (h : s = s') : freeI (F := F) c s ⊢ freeI (F := F) c s' := by subst h; exact .rfl
theorem freeO_move {s s' : Fin 4} (h : s = s') : freeO (F := F) c s ⊢ freeO (F := F) c s' := by subst h; exact .rfl
theorem sl_add {k : Nat} (hk : k + 4 < 32) : sl (bk k) = sl (bk (k + 4)) := by
  apply Fin.ext
  show (bk k).val % 4 = (bk (k + 4)).val % 4
  rw [bk_val hk, bk_val (by omega)]
  omega

variable (arg1 arg2 : Memref sig .tc .vmem S16x1 .i32) (g1 : Buf (Elt F) (arg1.view.loc (c : Thread nD τ))) (g2 : Buf (Elt F) (arg2.view.loc (c : Thread nD τ)))

/-- The segments' starts and ends, as the body loads them. -/
abbrev loV : Vec F S16x1 .i32 := arg1.view.readAt (Elt F) cR.toLoadRect g1
abbrev hiV : Vec F S16x1 .i32 := arg2.view.readAt (Elt F) cR.toLoadRect g2

/-- The stage holds the first `n` blocks. -/
def Staged (n : Nat) (f6 : Buf (Elt F) (stgM.view.loc (c : Thread nD τ))) : Prop :=
  ∀ j : Fin 32, j.val < n → stgM.view.readAt (Elt F) (stgR j).toLoadRect f6 = stgNext (tokBlk XA j)

/-- The state after `k` trips of the first pass. -/
def inv1 (k : Nat) : sProp 𝕄 :=
  iprop(∃ f6 f9, ⌜Staged c XA k f6⌝ ∗ ⌜sumM.view.readAt (Elt F) wR.toLoadRect f9 = sumsAt XA (loV c arg1 g1) (hiV c arg2 g2) k⌝
    ∗ stgP (F := F) c f6 ∗ sumP (F := F) c f9 ∗ colP c arg1 g1 ∗ colP c arg2 g2 ∗ (∃ W, owes (c : Thread nD τ) 0 W) ∗ bigSep Finset.univ (stI c XA k (min (k + 4) 32)))

/-- The stage after block `k` is stored holds one block more. -/
theorem staged_succ {k : Nat} (hk : k < 32) {f6} (h : Staged c XA k f6) : Staged c XA (k + 1) (stgM.view.writes (Elt F) f6 [⟨stgR (bk k), stgNext (tokBlk XA (bk k))⟩]) := by
  intro j hj
  by_cases e : j = bk k
  · subst e
    exact readAt_writes_same (Val := Elt F) stgM.view (stgR (bk k)) f6 _
  · refine (readAt_writes_apart (Val := Elt F) stgM.view (stgR j) (stgR (bk k)) f6 _ (stgR_disjoint e)).trans (h j ?_)
    have : j.val ≠ k := fun h => e (Fin.ext (h.trans (bk_val hk).symm))
    omega

/-- The sums after block `k` is added. -/
theorem sums_succ {k : Nat} {f9 : Buf (Elt F) (sumM.view.loc (c : Thread nD τ))}
    (h : sumM.view.readAt (Elt F) wR.toLoadRect f9 = sumsAt XA (loV c arg1 g1) (hiV c arg2 g2) k) :
    sumM.view.readAt (Elt F) wR.toLoadRect (sumM.view.writes (Elt F) f9
      [⟨wR, accNext (bk k) (tokBlk XA (bk k)) (loV c arg1 g1) (hiV c arg2 g2) (sumM.view.readAt (Elt F) wR.toLoadRect f9)⟩])
      = sumsAt XA (loV c arg1 g1) (hiV c arg2 g2) (k + 1) := by
  rw [h]
  exact readAt_writes_same (Val := Elt F) sumM.view wR f9 _

/-- One trip of the first pass. -/
theorem pass1_step (k : Nat) (hk : k < 32) :
    inv1 c XA arg1 arg2 g1 g2 k ⊢ wpc c (pass1 featM arg1 arg2 stgM (Memref.isWhole_whole _) inM sumM cc0_scratch4 k) fun _ => inv1 c XA arg1 arg2 g1 g2 (k + 1) := by
  have hv := bk_val hk
  have hne {j : Fin 32} (hj : j ≠ bk k) : j.val ≠ k := fun h => hj (Fin.ext (h.trans hv.symm))
  show _ ⊢ wp _ _ _ _ _
  unfold pass1 inv1
  rw [wp_bind]
  by_cases h4 : k + 4 < 32
  · have hv4 := bk_val h4
    have hne4 {j : Fin 32} (hj : j ≠ bk (k + 4)) : j.val ≠ k + 4 := fun h => hj (Fin.ext (h.trans hv4.symm))
    rw [if_pos h4, show min (k + 4) 32 = k + 4 by omega, show min (k + 1 + 4) 32 = k + 4 + 1 by omega]
    iintro ⟨%f6, %f9, %h6, %h9, H6, H9, H1, H2, ⟨%W, HW⟩, HB⟩
    ihave HB' := (focus2 (stI c XA k (k + 4)) (stI c XA (k + 1) (k + 4 + 1)) (bk k) (bk (k + 4))
      (fun h => by have := congrArg Fin.val h; omega)
      (fun j hj hj' => stI_other c XA (by have := hne hj; omega) (by have := hne4 hj'; omega))) $$ HB
    icases HB' with ⟨Hk, Hk4, Hb⟩
    ihave Hk' := (Entails.of_eq (stI_fly c XA (show ¬ (bk k).val < k by omega) (show (bk k).val < k + 4 by omega))) $$ Hk
    ihave Hk4' := (Entails.of_eq ((stI_home c XA (show ¬ (bk (k + 4)).val < k by omega) (show ¬ (bk (k + 4)).val < k + 4 by omega)).trans
      (by rw [if_neg (show ¬ (bk (k + 4)).val < 4 by omega)]))) $$ Hk4
    icases Hk' with ⟨%f, Hf⟩
    icases Hk4' with ⟨Hh4, Hc4, -⟩
    iapply (wp_wand_r frame (wpE (defs₀ (F := F)) 𝒱₀ (c : Thread nD τ) none) Set.univ)
    isplitl [Hf HW H1 H2 H6 H9]
    · iapply (sumTrip_run c XA arg1 arg2 (bk k) f f6 f9 g1 g2 W)
      isplitl [Hf]
      · iexact Hf
      isplitl [HW]
      · iexact HW
      isplitl [H1]
      · iexact H1
      isplitl [H2]
      · iexact H2
      isplitl [H6]
      · iexact H6
      iexact H9
    iintro %_ ⟨⟨Hh, Hc, Hs⟩, ⟨%W', HW⟩, H1, H2, H6, H9⟩
    ihave Hs' := (freeI_move c (sl_add h4)) $$ Hs
    icases Hs' with ⟨%f', Hs⟩
    iapply (issueIn_run c XA (bk (k + 4)) f' W')
    isplitl [Hh4]
    · iexact Hh4
    isplitl [Hs]
    · iexact Hs
    isplitl [Hc4]
    · iexact Hc4
    isplitl [HW]
    · iexact HW
    iintro ⟨Hf, HW⟩
    iexists _
    iexists _
    isplitr
    · ipureintro
      exact staged_succ c XA hk h6
    isplitr
    · ipureintro
      exact sums_succ c XA arg1 arg2 g1 g2 h9
    isplitl [H6]
    · iexact H6
    isplitl [H9]
    · iexact H9
    isplitl [H1]
    · iexact H1
    isplitl [H2]
    · iexact H2
    isplitl [HW]
    · iexists _
      iexact HW
    iapply Hb $$ [Hh Hc] [Hf]
    · iapply (Entails.of_eq ((stI_done c XA (show (bk k).val < k + 1 by omega)).trans (by rw [if_neg (show ¬ 28 ≤ (bk k).val by omega)])).symm)
      isplitl [Hh]
      · iexact Hh
      isplitl [Hc]
      · iexact Hc
      iempintro
    · iapply (Entails.of_eq (stI_fly c XA (show ¬ (bk (k + 4)).val < k + 1 by omega) (show (bk (k + 4)).val < k + 4 + 1 by omega)).symm)
      iexists _
      iexact Hf
  · rw [if_neg h4, show min (k + 4) 32 = 32 by omega, show min (k + 1 + 4) 32 = 32 by omega]
    iintro ⟨%f6, %f9, %h6, %h9, H6, H9, H1, H2, ⟨%W, HW⟩, HB⟩
    ihave HB' := (focus1 (stI c XA k 32) (stI c XA (k + 1) 32) (bk k)
      (fun j hj => stI_other c XA (by have := hne hj; omega) Iff.rfl)) $$ HB
    icases HB' with ⟨Hk, Hb⟩
    ihave Hk' := (Entails.of_eq (stI_fly c XA (show ¬ (bk k).val < k by omega) (show (bk k).val < 32 by omega))) $$ Hk
    icases Hk' with ⟨%f, Hf⟩
    iapply (wp_wand_r frame (wpE (defs₀ (F := F)) 𝒱₀ (c : Thread nD τ) none) Set.univ)
    isplitl [Hf HW H1 H2 H6 H9]
    · iapply (sumTrip_run c XA arg1 arg2 (bk k) f f6 f9 g1 g2 W)
      isplitl [Hf]
      · iexact Hf
      isplitl [HW]
      · iexact HW
      isplitl [H1]
      · iexact H1
      isplitl [H2]
      · iexact H2
      isplitl [H6]
      · iexact H6
      iexact H9
    iintro %_ ⟨⟨Hh, Hc, Hs⟩, ⟨%W', HW⟩, H1, H2, H6, H9⟩
    irw [wp_pure]
    imodintro
    iexists _
    iexists _
    isplitr
    · ipureintro
      exact staged_succ c XA hk h6
    isplitr
    · ipureintro
      exact sums_succ c XA arg1 arg2 g1 g2 h9
    isplitl [H6]
    · iexact H6
    isplitl [H9]
    · iexact H9
    isplitl [H1]
    · iexact H1
    isplitl [H2]
    · iexact H2
    isplitl [HW]
    · iexists _
      iexact HW
    iapply Hb
    iapply (Entails.of_eq ((stI_done c XA (show (bk k).val < k + 1 by omega)).trans (by rw [if_pos (show 28 ≤ (bk k).val by omega)])).symm)
    isplitl [Hh]
    · iexact Hh
    isplitl [Hc]
    · iexact Hc
    iexact Hs
end Pass1

/-! ## The second pass -/

section Pass2
variable (c : Dev nD) (Out : Fin 32 → Vec F S1x1024x512 .f32)

/-- Block `k`'s rows of the result hold it. -/
abbrev doneO (k : Fin 32) : sProp 𝕄 :=
  iprop(∃ f5, outP (F := F) c k ((blkOf outM k).view.writes (Elt F) f5 [⟨Rect.whole S1024x512, outFlat (Out k)⟩]))

/-- Where block `j`'s copy out stands when `w` are waited for and `n` are started. -/
def stO (w n : Nat) (j : Fin 32) : sProp 𝕄 :=
  if j.val < w then iprop(doneO c Out j ∗ ocellP (F := F) c j ∗ if 28 ≤ j.val then freeO (F := F) c (sl j) else emp)
  else if j.val < n then oflightP c j (Out j)
  else iprop((∃ f, outP (F := F) c j f) ∗ ocellP (F := F) c j ∗ if j.val < 4 then freeO (F := F) c (sl j) else emp)

theorem stO_done {w n : Nat} {j : Fin 32} (h : j.val < w) : stO c Out w n j = iprop(doneO c Out j ∗ ocellP (F := F) c j ∗ if 28 ≤ j.val then freeO (F := F) c (sl j) else emp) := by
  unfold stO; rw [if_pos h]
theorem stO_fly {w n : Nat} {j : Fin 32} (h : ¬ j.val < w) (h' : j.val < n) : stO c Out w n j = oflightP c j (Out j) := by
  unfold stO; rw [if_neg h, if_pos h']
theorem stO_home {w n : Nat} {j : Fin 32} (h : ¬ j.val < w) (h' : ¬ j.val < n) :
    stO c Out w n j = iprop((∃ f, outP (F := F) c j f) ∗ ocellP (F := F) c j ∗ if j.val < 4 then freeO (F := F) c (sl j) else emp) := by
  unfold stO; rw [if_neg h, if_neg h']
theorem stO_other {w n w' n' : Nat} {j : Fin 32} (h : (j.val < w ↔ j.val < w')) (h' : (j.val < n ↔ j.val < n')) : stO c Out w n j = stO c Out w' n' j := by
  unfold stO; simp only [h, h']

/-- Waiting for one of the last four copies out. -/
theorem drain_step (k : Nat) (hk : k < 32) (hk' : 28 ≤ k) :
    iprop((∃ W, owes (c : Thread nD τ) 0 W) ∗ bigSep Finset.univ (stO c Out k 32))
    ⊢ wpc c (waitOut outM ouM cc0_scratch5 (bk k)) fun _ => iprop((∃ W, owes (c : Thread nD τ) 0 W) ∗ bigSep Finset.univ (stO c Out (k + 1) 32)) := by
  have hv := bk_val hk
  iintro ⟨⟨%W, HW⟩, HB⟩
  ihave HB' := (focus1 (stO c Out k 32) (stO c Out (k + 1) 32) (bk k) (fun j hj => stO_other c Out (by
    have : j.val ≠ k := fun h => hj (Fin.ext (h.trans hv.symm))
    omega) Iff.rfl)) $$ HB
  icases HB' with ⟨Hk, Hb⟩
  ihave Hk' := (Entails.of_eq (stO_fly c Out (by omega) (by omega))) $$ Hk
  iapply (wp_wand_r frame (wpE (defs₀ (F := F)) 𝒱₀ (c : Thread nD τ) none) Set.univ)
  isplitl [Hk' HW]
  · iapply (waitOut_run c (bk k) (Out (bk k)) W)
    isplitl [Hk']
    · iexact Hk'
    iexact HW
  iintro %_ ⟨Hd, Hc, Hs, HW⟩
  isplitl [HW]
  · iexact HW
  iapply Hb
  iapply (Entails.of_eq ((stO_done c Out (show (bk k).val < k + 1 by omega)).trans (by rw [if_pos (show 28 ≤ (bk k).val by omega)])).symm)
  isplitl [Hd]
  · iexact Hd
  isplitl [Hc]
  · iexact Hc
  iexact Hs

variable (XA : Buf (Elt F) (featM.view.loc (c : Thread nD τ)))
  (arg1 arg2 : Memref sig .tc .vmem S16x1 .i32) (g1 : Buf (Elt F) (arg1.view.loc (c : Thread nD τ))) (g2 : Buf (Elt F) (arg2.view.loc (c : Thread nD τ)))
  (arg4 : Memref sig .tc .vmem S1x512 .f32) (g4 : Buf (Elt F) (arg4.view.loc (c : Thread nD τ))) (scl : Vec F S16x512 .f32)

/-- A row vector, as the body loads it. -/
abbrev rowV (a : Memref sig .tc .vmem S1x512 .f32) (g : Buf (Elt F) (a.view.loc (c : Thread nD τ))) : Vec F S1x512 .f32 := a.view.readAt (Elt F) gR.toLoadRect g

/-- Everything the second pass reads. -/
def still (f6 : Buf (Elt F) (stgM.view.loc (c : Thread nD τ))) (f9 : Buf (Elt F) (sumM.view.loc (c : Thread nD τ))) : sProp 𝕄 :=
  iprop(colP c arg1 g1 ∗ colP c arg2 g2 ∗ rowP c arg4 g4 ∗ stgP (F := F) c f6 ∗ sumP (F := F) c f9)

/-- The state after `k` trips of the second pass. -/
def inv2 (f6 : Buf (Elt F) (stgM.view.loc (c : Thread nD τ))) (f9 : Buf (Elt F) (sumM.view.loc (c : Thread nD τ))) (k : Nat) : sProp 𝕄 :=
  iprop(still c arg1 arg2 g1 g2 arg4 g4 f6 f9 ∗ (∃ W, owes (c : Thread nD τ) 0 W) ∗ bigSep Finset.univ (stO c Out (k - 4) k))

/-- One trip of the second pass. -/
theorem pass2_step (f6 f9) (h6 : Staged c XA 32 f6) (h9 : sumM.view.readAt (Elt F) wR.toLoadRect f9 = scl)
    (hOut : ∀ k, Out k = outNext k (stgNext (tokBlk XA k)) (loV c arg1 g1) (hiV c arg2 g2) scl (rowV c arg4 g4)) (k : Nat) (hk : k < 32) :
    inv2 c Out arg1 arg2 g1 g2 arg4 g4 f6 f9 k ⊢ wpc c (pass2 arg1 arg2 arg4 outM stgM ouM sumM cc0_scratch5 k) fun _ => inv2 c Out arg1 arg2 g1 g2 arg4 g4 f6 f9 (k + 1) := by
  have hv := bk_val hk
  have hne {j : Fin 32} (hj : j ≠ bk k) : j.val ≠ k := fun h => hj (Fin.ext (h.trans hv.symm))
  have hrun (f f5 W) := outTrip_run c arg1 arg2 arg4 (bk k) f f5 f6 f9 g1 g2 g4 W
  rw [h6 (bk k) (by omega), h9] at hrun
  have hO := hOut (bk k)
  rw [← hO] at hrun
  show _ ⊢ wp _ _ _ _ _
  unfold pass2 inv2 still
  rw [wp_bind]
  by_cases h4 : 4 ≤ k
  · obtain ⟨i, rfl⟩ : ∃ i, k = i + 4 := ⟨k - 4, by omega⟩
    have hvi := bk_val (show i < 32 by omega)
    have hnei {j : Fin 32} (hj : j ≠ bk i) : j.val ≠ i := fun h => hj (Fin.ext (h.trans hvi.symm))
    rw [if_pos h4, show i + 4 - 4 = i by omega, show i + 4 + 1 - 4 = i + 1 by omega]
    iintro ⟨⟨H1, H2, H4, H6, H9⟩, ⟨%W, HW⟩, HB⟩
    ihave HB' := (focus2 (stO c Out i (i + 4)) (stO c Out (i + 1) (i + 4 + 1)) (bk i) (bk (i + 4))
      (fun h => by have := congrArg Fin.val h; omega)
      (fun j hj hj' => stO_other c Out (by have := hnei hj; omega) (by have := hne hj'; omega))) $$ HB
    icases HB' with ⟨Hi, Hk, Hb⟩
    ihave Hi' := (Entails.of_eq (stO_fly c Out (show ¬ (bk i).val < i by omega) (show (bk i).val < i + 4 by omega))) $$ Hi
    ihave Hk' := (Entails.of_eq ((stO_home c Out (show ¬ (bk (i + 4)).val < i by omega) (show ¬ (bk (i + 4)).val < i + 4 by omega)).trans
      (by rw [if_neg (show ¬ (bk (i + 4)).val < 4 by omega)]))) $$ Hk
    icases Hk' with ⟨⟨%f5, Ho⟩, Hc, -⟩
    iapply (wp_wand_r frame (wpE (defs₀ (F := F)) 𝒱₀ (c : Thread nD τ) none) Set.univ)
    isplitl [Hi' HW]
    · iapply (waitOut_run c (bk i) (Out (bk i)) W)
      isplitl [Hi']
      · iexact Hi'
      iexact HW
    iintro %_ ⟨Hd, Hci, Hs, ⟨%W', HW⟩⟩
    ihave Hs' := (freeO_move c (sl_add hk)) $$ Hs
    icases Hs' with ⟨%f, Hs⟩
    iapply (wp_wand_r frame (wpE (defs₀ (F := F)) 𝒱₀ (c : Thread nD τ) none) Set.univ)
    isplitl [Hs Ho Hc HW H1 H2 H4 H6 H9]
    · iapply (hrun f f5 W')
      isplitl [Hs]
      · iexact Hs
      isplitl [Ho]
      · iexact Ho
      isplitl [Hc]
      · iexact Hc
      isplitl [HW]
      · iexact HW
      isplitl [H1]
      · iexact H1
      isplitl [H2]
      · iexact H2
      isplitl [H4]
      · iexact H4
      isplitl [H6]
      · iexact H6
      iexact H9
    iintro %_ ⟨Hf, HW, HR⟩
    isplitl [HR]
    · iexact HR
    isplitl [HW]
    · iexists _
      iexact HW
    iapply Hb $$ [Hd Hci] [Hf]
    · iapply (Entails.of_eq ((stO_done c Out (show (bk i).val < i + 1 by omega)).trans (by rw [if_neg (show ¬ 28 ≤ (bk i).val by omega)])).symm)
      isplitl [Hd]
      · iexact Hd
      isplitl [Hci]
      · iexact Hci
      iempintro
    · iapply (Entails.of_eq (stO_fly c Out (show ¬ (bk (i + 4)).val < i + 1 by omega) (show (bk (i + 4)).val < i + 4 + 1 by omega)).symm)
      iexact Hf
  · rw [if_neg h4, show k - 4 = 0 by omega, show k + 1 - 4 = 0 by omega]
    iintro ⟨⟨H1, H2, H4, H6, H9⟩, ⟨%W, HW⟩, HB⟩
    ihave HB' := (focus1 (stO c Out 0 k) (stO c Out 0 (k + 1)) (bk k)
      (fun j hj => stO_other c Out Iff.rfl (by have := hne hj; omega))) $$ HB
    icases HB' with ⟨Hk, Hb⟩
    ihave Hk' := (Entails.of_eq ((stO_home c Out (show ¬ (bk k).val < 0 by omega) (show ¬ (bk k).val < k by omega)).trans
      (by rw [if_pos (show (bk k).val < 4 by omega)]))) $$ Hk
    icases Hk' with ⟨⟨%f5, Ho⟩, Hc, ⟨%f, Hs⟩⟩
    irw [wp_pure]
    imodintro
    iapply (wp_wand_r frame (wpE (defs₀ (F := F)) 𝒱₀ (c : Thread nD τ) none) Set.univ)
    isplitl [Hs Ho Hc HW H1 H2 H4 H6 H9]
    · iapply (hrun f f5 W)
      isplitl [Hs]
      · iexact Hs
      isplitl [Ho]
      · iexact Ho
      isplitl [Hc]
      · iexact Hc
      isplitl [HW]
      · iexact HW
      isplitl [H1]
      · iexact H1
      isplitl [H2]
      · iexact H2
      isplitl [H4]
      · iexact H4
      isplitl [H6]
      · iexact H6
      iexact H9
    iintro %_ ⟨Hf, HW, HR⟩
    isplitl [HR]
    · iexact HR
    isplitl [HW]
    · iexists _
      iexact HW
    iapply Hb
    iapply (Entails.of_eq (stO_fly c Out (show ¬ (bk k).val < 0 by omega) (show (bk k).val < k + 1 by omega)).symm)
    iexact Hf
end Pass2

end Cert.Proof.Loop
-- ==== Proof.Body.lean ====
/-
  The whole kernel function on one core: from the tokens, the segments' ends and the two row vectors it leaves the result
  block by block and everything else as it was.
-/
module

public import proofs.«01_k».proof.Proof.Passes

@[expose] public section

noncomputable section

namespace Cert.Proof.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## Four of the thirty-two -/

/-- A product over the members `e` picks out. -/
theorem bigSep_picked (e : Fin 4 ↪ Fin 32) (p : Fin 32 → Prop) [DecidablePred p] (hp : Finset.univ.filter p = Finset.univ.map e) (Φ : Fin 32 → sProp 𝕄) :
    (bigSep Finset.univ fun j => if p j then Φ j else (iprop(emp) : sProp 𝕄)) = bigSep Finset.univ fun s => Φ (e s) := by
  refine (bigSep_filter Finset.univ p Φ).symm.trans ?_
  rw [hp, bigSep_map]

def firstFour : Fin 4 ↪ Fin 32 := ⟨fun s => ⟨s.val, by omega⟩, fun a b h => Fin.ext (by have := congrArg Fin.val h; simpa using this)⟩
def lastFour : Fin 4 ↪ Fin 32 := ⟨fun s => ⟨28 + s.val, by omega⟩, fun a b h => Fin.ext (by have := congrArg Fin.val h; simp only at this; omega)⟩

/-- The slots of the first four blocks are the four slots, -/
theorem slots_first (Φ : Fin 4 → sProp 𝕄) : (bigSep Finset.univ fun j : Fin 32 => if j.val < 4 then Φ (sl j) else (iprop(emp) : sProp 𝕄)) = bigSep Finset.univ Φ := by
  rw [bigSep_picked firstFour (fun j => j.val < 4) (by decide) (fun j => Φ (sl j))]
  exact bigSep_congr fun s _ => congrArg Φ (Fin.ext (by show s.val % 4 = s.val; omega))
/-- and so are those of the last four. -/
theorem slots_last (Φ : Fin 4 → sProp 𝕄) : (bigSep Finset.univ fun j : Fin 32 => if 28 ≤ j.val then Φ (sl j) else (iprop(emp) : sProp 𝕄)) = bigSep Finset.univ Φ := by
  rw [bigSep_picked lastFour (fun j => 28 ≤ j.val) (by decide) (fun j => Φ (sl j))]
  exact bigSep_congr fun s _ => congrArg Φ (Fin.ext (by show (28 + s.val) % 4 = s.val; omega))

/-- Three products at once. -/
theorem bigSep_three (A B C : Fin 32 → sProp 𝕄) :
    (bigSep Finset.univ fun j => iprop(A j ∗ B j ∗ C j)) = iprop(bigSep Finset.univ A ∗ bigSep Finset.univ B ∗ bigSep Finset.univ C) := by
  have e := bigSep_sep (Finset.univ : Finset (Fin 32)) A (fun j => iprop(B j ∗ C j))
  have e' := bigSep_sep (Finset.univ : Finset (Fin 32)) B C
  refine e.trans ?_
  show BI.sep _ _ = BI.sep _ _
  exact congrArg (BI.sep _) e'

/-! ## The function -/

section Body
variable (c : Dev nD) (XA : Buf (Elt F) (featM.view.loc (c : Thread nD τ)))
  (arg1 arg2 : Memref sig .tc .vmem S16x1 .i32) (g1 : Buf (Elt F) (arg1.view.loc (c : Thread nD τ))) (g2 : Buf (Elt F) (arg2.view.loc (c : Thread nD τ)))
  (arg3 arg4 : Memref sig .tc .vmem S1x512 .f32) (g3 : Buf (Elt F) (arg3.view.loc (c : Thread nD τ))) (g4 : Buf (Elt F) (arg4.view.loc (c : Thread nD τ)))

/-- The kernel function on its own buffers and the four staged operands. -/
abbrev bodyG : P (F := F) := kernel featM arg1 arg2 arg3 arg4 outM stgM (Memref.isWhole_whole _) inM ouM sumM cc0_scratch4 cc0_scratch5

/-- Block `k` of the result, from what the body loads. -/
abbrev outV (k : Fin 32) : Vec F S1x1024x512 .f32 := outBlk XA (loV c arg1 g1) (hiV c arg2 g2) (rowV c arg3 g3) (rowV c arg4 g4) k

/-- The four staged operands, the tokens, the semaphores and the rings: what the body finds and leaves alike. -/
def kept : sProp 𝕄 :=
  iprop(colP c arg1 g1 ∗ colP c arg2 g2 ∗ rowP c arg3 g3 ∗ rowP c arg4 g4 ∗ bigSep Finset.univ (homeP c XA)
    ∗ bigSep Finset.univ (icellP (F := F) c) ∗ bigSep Finset.univ (ocellP (F := F) c) ∗ bigSep Finset.univ (freeI (F := F) c) ∗ bigSep Finset.univ (freeO (F := F) c)
    ∗ (∃ f6, stgP (F := F) c f6) ∗ (∃ f9, sumP (F := F) c f9) ∗ (∃ W, owes (c : Thread nD τ) 0 W))

theorem stI_start : bigSep Finset.univ (stI c XA 0 0) = iprop(bigSep Finset.univ (homeP c XA) ∗ bigSep Finset.univ (icellP (F := F) c) ∗ bigSep Finset.univ (freeI (F := F) c)) := by
  rw [← slots_first, ← bigSep_three]
  exact bigSep_congr fun j _ => stI_home c XA (Nat.not_lt_zero _) (Nat.not_lt_zero _)
theorem stI_end : bigSep Finset.univ (stI c XA 32 32) = iprop(bigSep Finset.univ (homeP c XA) ∗ bigSep Finset.univ (icellP (F := F) c) ∗ bigSep Finset.univ (freeI (F := F) c)) := by
  rw [← slots_last, ← bigSep_three]
  exact bigSep_congr fun j _ => stI_done c XA j.isLt
theorem stO_start (Out : Fin 32 → Vec F S1x1024x512 .f32) : bigSep Finset.univ (stO c Out 0 0) = iprop((bigSep Finset.univ fun k => iprop(∃ f, outP (F := F) c k f)) ∗ bigSep Finset.univ (ocellP (F := F) c) ∗ bigSep Finset.univ (freeO (F := F) c)) := by
  rw [← slots_first, ← bigSep_three]
  exact bigSep_congr fun j _ => stO_home c Out (Nat.not_lt_zero _) (Nat.not_lt_zero _)
theorem stO_end (Out : Fin 32 → Vec F S1x1024x512 .f32) : bigSep Finset.univ (stO c Out 32 32) = iprop(bigSep Finset.univ (doneO c Out) ∗ bigSep Finset.univ (ocellP (F := F) c) ∗ bigSep Finset.univ (freeO (F := F) c)) := by
  rw [← slots_last, ← bigSep_three]
  exact bigSep_congr fun j _ => stO_done c Out j.isLt

/-- The first pass's state before its first trip. -/
theorem inv1_start (f6 f9) :
    iprop(stgP (F := F) c f6 ∗ sumP (F := F) c (sumM.view.writes (Elt F) f9 [⟨wR, accZero⟩]) ∗ colP c arg1 g1 ∗ colP c arg2 g2 ∗ (∃ W, owes (c : Thread nD τ) 0 W) ∗ bigSep Finset.univ (stI c XA 0 4))
    ⊢ inv1 c XA arg1 arg2 g1 g2 0 := by
  unfold inv1
  iintro ⟨H6, H9, HR⟩
  iexists f6
  iexists (sumM.view.writes (Elt F) f9 [⟨wR, accZero⟩])
  isplitr
  · ipureintro
    exact fun j hj => absurd hj (Nat.not_lt_zero _)
  isplitr
  · ipureintro
    exact readAt_writes_same (Val := Elt F) sumM.view wR f9 _
  isplitl [H6]
  · iexact H6
  isplitl [H9]
  · iexact H9
  iexact HR

/-- The sums' buffer once the scales are stored. -/
abbrev scaledF (f9 : Buf (Elt F) (sumM.view.loc (c : Thread nD τ))) : Buf (Elt F) (sumM.view.loc (c : Thread nD τ)) :=
  sumM.view.writes (Elt F) f9 [⟨wR, scaleOf (sumM.view.readAt (Elt F) wR.toLoadRect f9) (rowV c arg3 g3)⟩]

theorem scales_read {f9 : Buf (Elt F) (sumM.view.loc (c : Thread nD τ))} (h : sumM.view.readAt (Elt F) wR.toLoadRect f9 = sumsAt XA (loV c arg1 g1) (hiV c arg2 g2) 32) :
    sumM.view.readAt (Elt F) wR.toLoadRect (scaledF c arg3 g3 f9) = scales XA (loV c arg1 g1) (hiV c arg2 g2) (rowV c arg3 g3) := by
  unfold scaledF
  rw [h]
  exact readAt_writes_same (Val := Elt F) sumM.view wR f9 _

/-- THE BODY: from the result's blocks at anything to every block at its values, the rest kept. -/
theorem body_run :
    iprop(kept c XA arg1 arg2 g1 g2 arg3 arg4 g3 g4 ∗ bigSep Finset.univ fun k => iprop(∃ f, outP (F := F) c k f))
    ⊢ wp frame (wpE (defs₀ (F := F)) 𝒱₀ (c : Thread nD τ) none) Set.univ (bodyG arg1 arg2 arg3 arg4)
      fun _ => iprop(kept c XA arg1 arg2 g1 g2 arg3 arg4 g3 g4 ∗ bigSep Finset.univ (doneO c (outV c XA arg1 arg2 g1 g2 arg3 arg4 g3 g4))) := by
  unfold bodyG kernel kept
  rw [wp_bind, wp_bind, wp_bind, wp_bind, wp_bind]
  iintro ⟨⟨H1, H2, H3, H4, Hh, Hic, Hoc, Hfi, Hfo, ⟨%f6, H6⟩, ⟨%f9, H9⟩, HW⟩, Ho⟩
  -- the first four copies
  iapply (wp_wand_r frame (wpE (defs₀ (F := F)) 𝒱₀ (c : Thread nD τ) none) Set.univ)
  isplitl [HW Hh Hic Hfi]
  · iapply (trips_run c (fun k => iprop((∃ W, owes (c : Thread nD τ) 0 W) ∗ bigSep Finset.univ (stI c XA 0 k))) _ 0 4 (fun k _ hk => issue_step c XA k hk) 4 0 (by omega) (by omega))
    isplitl [HW]
    · iexact HW
    iapply (Entails.of_eq (stI_start c XA).symm)
    isplitl [Hh]
    · iexact Hh
    isplitl [Hic]
    · iexact Hic
    iexact Hfi
  iintro %_ ⟨HW, HI⟩
  -- the sums zeroed
  iapply (wp_wand_r frame (wpE (defs₀ (F := F)) 𝒱₀ (c : Thread nD τ) none) Set.univ)
  isplitl [H9]
  · iapply (zeroSums_run c f9)
    iexact H9
  iintro %_ H9
  -- the first pass
  iapply (wp_wand_r frame (wpE (defs₀ (F := F)) 𝒱₀ (c : Thread nD τ) none) Set.univ)
  isplitl [HW HI H9 H6 H1 H2]
  · iapply (trips_run c (inv1 c XA arg1 arg2 g1 g2) _ 0 32 (fun k _ hk => pass1_step c XA arg1 arg2 g1 g2 k hk) 32 0 (by omega) (by omega))
    iapply (inv1_start c XA arg1 arg2 g1 g2 f6 f9)
    isplitl [H6]
    · iexact H6
    isplitl [H9]
    · iexact H9
    isplitl [H1]
    · iexact H1
    isplitl [H2]
    · iexact H2
    isplitl [HW]
    · iexact HW
    iexact HI
  iintro %_ HI
  unfold inv1
  icases HI with ⟨%f6', %f9', %h6, %h9, H6, H9, H1, H2, HW, HI⟩
  ihave HI' := (Entails.of_eq (show bigSep Finset.univ (stI c XA (0 + 32) (min (0 + 32 + 4) 32)) = _ from stI_end c XA)) $$ HI
  icases HI' with ⟨Hh, Hic, Hfi⟩
  -- the scales
  iapply (wp_wand_r frame (wpE (defs₀ (F := F)) 𝒱₀ (c : Thread nD τ) none) Set.univ)
  isplitl [H9 H3]
  · iapply (scaleSums_run c arg3 f9' g3)
    isplitl [H9]
    · iexact H9
    iexact H3
  iintro %_ ⟨H9, H3⟩
  -- the second pass
  iapply (wp_wand_r frame (wpE (defs₀ (F := F)) 𝒱₀ (c : Thread nD τ) none) Set.univ)
  isplitl [HW Ho Hoc Hfo H9 H6 H1 H2 H4]
  · iapply (trips_run c (inv2 c (outV c XA arg1 arg2 g1 g2 arg3 arg4 g3 g4) arg1 arg2 g1 g2 arg4 g4 f6' (scaledF c arg3 g3 f9')) _ 0 32
      (fun k _ hk => pass2_step c (outV c XA arg1 arg2 g1 g2 arg3 arg4 g3 g4) XA arg1 arg2 g1 g2 arg4 g4 (scales XA (loV c arg1 g1) (hiV c arg2 g2) (rowV c arg3 g3)) f6' (scaledF c arg3 g3 f9') h6
        (scales_read c XA arg1 arg2 g1 g2 arg3 g3 h9) (fun k => rfl) k hk) 32 0 (by omega) (by omega))
    unfold inv2 still
    isplitl [H9 H6 H1 H2 H4]
    · isplitl [H1]
      · iexact H1
      isplitl [H2]
      · iexact H2
      isplitl [H4]
      · iexact H4
      isplitl [H6]
      · iexact H6
      iexact H9
    isplitl [HW]
    · iexact HW
    iapply (Entails.of_eq (stO_start c (outV c XA arg1 arg2 g1 g2 arg3 arg4 g3 g4)).symm)
    isplitl [Ho]
    · iexact Ho
    isplitl [Hoc]
    · iexact Hoc
    iexact Hfo
  iintro %_ HO
  unfold inv2 still
  icases HO with ⟨⟨H1, H2, H4, H6, H9⟩, HW, HO⟩
  -- the last four copies out
  iapply (wp_wand_r frame (wpE (defs₀ (F := F)) 𝒱₀ (c : Thread nD τ) none) Set.univ)
  isplitl [HW HO]
  · iapply (trips_run c (fun k => iprop((∃ W, owes (c : Thread nD τ) 0 W) ∗ bigSep Finset.univ (stO c (outV c XA arg1 arg2 g1 g2 arg3 arg4 g3 g4) k 32))) _ 28 32
      (fun k h hk => drain_step c _ k hk h) 4 28 (by omega) (by omega))
    isplitl [HW]
    · iexact HW
    iexact HO
  iintro %_ ⟨HW, HO⟩
  ihave HO' := (Entails.of_eq (stO_end c (outV c XA arg1 arg2 g1 g2 arg3 arg4 g3 g4))) $$ HO
  icases HO' with ⟨Ho, Hoc, Hfo⟩
  isplitr [Ho]
  · isplitl [H1]
    · iexact H1
    isplitl [H2]
    · iexact H2
    isplitl [H3]
    · iexact H3
    isplitl [H4]
    · iexact H4
    isplitl [Hh]
    · iexact Hh
    isplitl [Hic]
    · iexact Hic
    isplitl [Hoc]
    · iexact Hoc
    isplitl [Hfi]
    · iexact Hfi
    isplitl [Hfo]
    · iexact Hfo
    isplitl [H6]
    · iexists _
      iexact H6
    isplitl [H9]
    · iexists _
      iexact H9
    iexact HW
  iexact Ho

/-! ## The result whole -/

/-- The result, from its blocks: row `1024 k + t` is row `t` of block `k`. -/
def resultOf (Out : Fin 32 → Vec F S1x1024x512 .f32) : S32768x512.Idx → F .f32 := fun i =>
  outFlat (Out ⟨(i 0).val / 1024, by have : (i 0).val < 32768 := (i 0).isLt; omega⟩) (ix2 ⟨(i 0).val % 1024, Nat.mod_lt _ (by decide)⟩ (i 1))

theorem resultOf_blk (Out : Fin 32 → Vec F S1x1024x512 .f32) (k : Fin 32) (y : S1024x512.Idx) : resultOf Out (blkIx k y) = outFlat (Out k) y := by
  have hy0 : (y 0).val < 1024 := (y 0).isLt
  have e0 : ((blkIx k y) 0).val = 1024 * k.val + (y 0).val := by
    show 1024 * k.val + 1 * (y 0).val = _
    omega
  have e1 : ((blkIx k y) 1).val = (y 1).val := by
    show 0 + 1 * (y 1).val = _
    omega
  unfold resultOf
  have a : (⟨((blkIx k y) 0).val / 1024, by have : ((blkIx k y) 0).val < 32768 := ((blkIx k y) 0).isLt; omega⟩ : Fin 32) = k := Fin.ext (by show _ / 1024 = _; rw [e0]; omega)
  have b : (ix2 (n0 := 1024) (n1 := 512) ⟨((blkIx k y) 0).val % 1024, Nat.mod_lt _ (by decide)⟩ ((blkIx k y) 1)) = y := by
    refine Eq.trans ?_ (eq_ix2 (n0 := 1024) (n1 := 512) y).symm
    exact congrArg₂ ix2 (Fin.ext (by show _ % 1024 = _; rw [e0]; omega)) (Fin.ext e1)
  rw [a, b]

/-- A block's rows holding it hold the result there. -/
theorem done_eq (Out : Fin 32 → Vec F S1x1024x512 .f32) (k : Fin 32) : doneO c Out k ⊢ outP (F := F) c k (resultOf Out) := by
  iintro ⟨%f5, H⟩
  have e : ∀ i ∈ (blkOf outM k).view.set, (blkOf outM k).view.writes (Elt F) f5 [⟨Rect.whole S1024x512, outFlat (Out k)⟩] i = resultOf Out i := by
    intro i hi
    obtain ⟨y, -, rfl⟩ := Finset.mem_map.mp hi
    have h := congrFun (read_writes_whole (Val := Elt F) (blkOf outM k).view f5 (outFlat (Out k))) y
    have key : ∀ g : Buf (Elt F) ((blkOf outM k).view.loc (c : Thread nD τ)), (blkOf outM k).view.read (Elt F) g y = g ((blkOf outM k).view.emb y) := fun g => rfl
    have hb : (blkOf outM k).view.emb y = blkIx k y := rfl
    have h2 : (blkOf outM k).view.writes (Elt F) f5 [⟨Rect.whole S1024x512, outFlat (Out k)⟩] ((blkOf outM k).view.emb y) = outFlat (Out k) y := (key _).symm.trans h
    have h3 : resultOf Out ((blkOf outM k).view.emb y) = outFlat (Out k) y := by
      rw [hb]
      exact resultOf_blk Out k y
    rw [h2, h3]
  have e' := pointsTo_congr (Ix := Unit) (Name := ℕ) (U := UU nD τ) (Lvl := ℕ) (q := fullShare) (ℓ := (blkOf outM k).view.loc (c : Thread nD τ)) e
  iapply (Entails.of_eq e')
  iexact H
end Body

end Cert.Proof.Loop
-- ==== Proof.LoopEq.lean ====
/-
  The printed kernel function is the loop form: the two make the same effects in the same order, gone through side by side.
-/
module

public import proofs.«01_k».proof.Proof.Loop

@[expose] public section

set_option maxRecDepth 100000

noncomputable section

namespace Cert.Proof.Loop

open Cert.KernelIdeal Cert.KernelIdeal.Gen
open Idealize.ShloMosaic Idealize.SL.Sem

/-- Two programs that make the same effect and go on alike are equal. -/
theorem op_step.{v} {E : Type → Type v} {α β : Type} {e e' : E β} {k k' : β → Prog E α} (he : e = e') (hk : ∀ x, k x = k' x) : Prog.op e k = Prog.op e' k' := by
  subst he; exact congrArg _ (funext hk)

variable {F : FTy → Type} [FloatOps F]

set_option maxHeartbeats 4000000 in
/-- The printed kernel function is the loop form. -/
theorem kernel_eq (arg0 : Memref sig .tc .hbm S32768x512 .f32) (harg0 : arg0.IsWhole) (arg1 : Memref sig .tc .vmem S16x1 .i32) (harg1 : arg1.IsWhole) (arg2 : Memref sig .tc .vmem S16x1 .i32) (harg2 : arg2.IsWhole) (arg3 : Memref sig .tc .vmem S1x512 .f32) (harg3 : arg3.IsWhole) (arg4 : Memref sig .tc .vmem S1x512 .f32) (harg4 : arg4.IsWhole) (arg5 : Memref sig .tc .hbm S32768x512 .f32) (harg5 : arg5.IsWhole) (arg6 : Memref sig .tc .vmem S32x1024x512 .bf16) (harg6 : arg6.IsWhole) (arg7 : Memref sig .tc .vmem S4x1024x512 .f32) (harg7 : arg7.IsWhole) (arg8 : Memref sig .tc .vmem S4x1024x512 .f32) (harg8 : arg8.IsWhole) (arg9 : Memref sig .tc .vmem S16x512 .f32) (harg9 : arg9.IsWhole) (arg10 : DmaSems sig S32) (arg11 : DmaSems sig S32) :
    cc0__fused_kernel (F := F) arg0 harg0 arg1 harg1 arg2 harg2 arg3 harg3 arg4 harg4 arg5 harg5 arg6 harg6 arg7 harg7 arg8 harg8 arg9 harg9 arg10 arg11
      = kernel arg0 arg1 arg2 arg3 arg4 arg5 arg6 harg6 arg7 arg8 arg9 arg10 arg11 := by
  repeat (refine op_step ?_ fun _ => ?_; focus rfl)
  rfl

end Cert.Proof.Loop
-- ==== Proof.Cover.lean ====
/-
  The buffers as their parts: the tokens and the result as their thirty-two blocks, the rings as their four slots, the
  kernel's own semaphores as its in cells and its out cells.
-/
module

public import proofs.«01_k».proof.Proof.Body
public import proofs.«01_k».proof.Proof.LoopEq
public import proofs.«01_k».proof.Proof.Gen.KernelIdeal.Frame

@[expose] public section

noncomputable section

namespace Cert.Proof.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The kernel's own semaphores -/

/-- The thirty-two in cells and the thirty-two out cells. -/
abbrev osem : Fin 32 ⊕ Fin 32 → SemLoc sig := Sum.elim (fun k => .dma (semOf cc0_scratch4 k).sem) (fun k => .dma (semOf cc0_scratch5 k).sem)
set_option maxRecDepth 100000 in
theorem ownSemFacts : Pipeline.OwnSemFacts spec0 osem := by decide

/-- The kernel's own cells at zero. -/
theorem ownSems0_eq (c : Dev nD) : (Pipeline.ownSems0 (Ix := Unit) (Name := ℕ) (U := UU nD τ) (Lvl := ℕ) (Val := Elt F) (τ := τ) osem c : sProp 𝕄)
    = iprop(bigSep Finset.univ (icellP (F := F) c) ∗ bigSep Finset.univ (ocellP (F := F) c)) := by
  unfold Pipeline.ownSems0
  rw [bigSep_univ_sum]
  rfl

/-! ## Blocks and slots cover their buffers -/

abbrev IB (k : Fin 32) : Finset S32768x512.Idx := (blkR k).set
abbrev IS (s : Fin 4) : Finset S4x1024x512.Idx := (slotR s).set

theorem blkH_set (k : Fin 32) : (blkOf featM k).view.set = IB k := View.set_slice_whole _ _
theorem blkO_set (k : Fin 32) : (blkOf outM k).view.set = IB k := View.set_slice_whole _ _
theorem slotI_set (s : Fin 4) : (slotOf inM s).view.set = IS s := (View.set_reshape _ _).trans (View.set_slice_whole _ _)
theorem slotO_set (s : Fin 4) : (slotOf ouM s).view.set = IS s := (View.set_reshape _ _).trans (View.set_slice_whole _ _)

theorem mem_IB (k : Fin 32) (y : S32768x512.Idx) : y ∈ IB k ↔ (y 0).val / 1024 = k.val := by
  rw [Rect.mem_set_unit]
  have h1 : (y 1).val < 512 := (y 1).isLt
  constructor
  · intro H; have a0 : 1024 * k.val ≤ (y 0).val ∧ (y 0).val < 1024 * k.val + 1024 := H 0; omega
  · intro H i; fin_cases i
    · show 1024 * k.val ≤ (y 0).val ∧ (y 0).val < 1024 * k.val + 1024; omega
    · show 0 ≤ (y 1).val ∧ (y 1).val < 0 + 512; omega
theorem mem_IS (s : Fin 4) (y : S4x1024x512.Idx) : y ∈ IS s ↔ (y 0).val = s.val := by
  rw [Rect.mem_set_unit]
  have h1 : (y 1).val < 1024 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 512; omega
theorem IB_disjoint : ∀ b b' : Fin 32, b ≠ b' → Disjoint (IB b) (IB b') := by
  intro b b' hne; rw [Finset.disjoint_left]; intro y hy hy'; rw [mem_IB] at hy hy'; exact hne (Fin.ext (hy.symm.trans hy'))
theorem IB_cover : (Finset.univ : Finset (Fin 32)).biUnion IB = Finset.univ := by
  ext y
  simp only [Finset.mem_biUnion, Finset.mem_univ, true_and, iff_true]
  have : (y 0).val < 32768 := (y 0).isLt
  exact ⟨⟨(y 0).val / 1024, by omega⟩, by rw [mem_IB]⟩
theorem IS_disjoint : ∀ s s' : Fin 4, s ≠ s' → Disjoint (IS s) (IS s') := by
  intro b b' hne; rw [Finset.disjoint_left]; intro y hy hy'; rw [mem_IS] at hy hy'; exact hne (Fin.ext (hy.symm.trans hy'))
theorem IS_cover : (Finset.univ : Finset (Fin 4)).biUnion IS = Finset.univ := by
  ext y
  simp only [Finset.mem_biUnion, Finset.mem_univ, true_and, iff_true]
  have : (y 0).val < 4 := (y 0).isLt
  exact ⟨⟨(y 0).val, this⟩, by rw [mem_IS]⟩

section Split
variable (c : Dev nD)

/-- The tokens whole are their blocks home. -/
theorem feat_eq (f : Buf (Elt F) ((c : Thread nD τ).loc main_arg0)) : (((c : Thread nD τ).loc main_arg0) ↦{fullShare} f : sProp 𝕄) = bigSep Finset.univ (homeP c f) := by
  rw [Ring.pointsTo_blocks (ℓ := (c : Thread nD τ).loc main_arg0) IB IB_disjoint IB_cover]
  exact bigSep_congr fun b _ => by rw [← blkH_set]
/-- The result whole is its blocks. -/
theorem out_eq (f : Buf (Elt F) ((c : Thread nD τ).loc main_v0)) : (((c : Thread nD τ).loc main_v0) ↦{fullShare} f : sProp 𝕄) = bigSep Finset.univ fun k => outP c k f := by
  rw [Ring.pointsTo_blocks (ℓ := (c : Thread nD τ).loc main_v0) IB IB_disjoint IB_cover]
  exact bigSep_congr fun b _ => by rw [← blkO_set]

theorem freeI_eq (s : Fin 4) : freeI (F := F) c s = iprop(∃ f, ((c : Thread nD τ).loc cc0_scratch1) ↦[IS s]{fullShare} f) := by
  rw [← slotI_set]
theorem freeO_eq (s : Fin 4) : freeO (F := F) c s = iprop(∃ f, ((c : Thread nD τ).loc cc0_scratch2) ↦[IS s]{fullShare} f) := by
  rw [← slotO_set]

theorem exists_some {T : Type} (Φ : T → sProp 𝕄) (f : T) : Φ f ⊢ iprop(∃ f, Φ f) := by
  iintro H; iexists f; iexact H
/-- A member of a product at some contents. -/
theorem bigSep_some {n : Nat} {T : Type} (Φ : Fin n → T → sProp 𝕄) (f : T) : (bigSep Finset.univ fun s => Φ s f) ⊢ bigSep Finset.univ fun s => iprop(∃ f, Φ s f) :=
  bigSep_mono fun s _ => exists_some (Φ s) f

/-- The in ring whole is its slots, and back. -/
theorem inRing_split : iprop(∃ f : Buf (Elt F) ((c : Thread nD τ).loc cc0_scratch1), ((c : Thread nD τ).loc cc0_scratch1) ↦{fullShare} f) ⊢ bigSep Finset.univ (freeI (F := F) c) := by
  rw [bigSep_congr (fun s _ => freeI_eq (F := F) c s)]
  iintro ⟨%f, H⟩
  iapply (bigSep_some (fun s f => ((c : Thread nD τ).loc cc0_scratch1) ↦[IS s]{fullShare} f) f)
  iapply (Entails.of_eq (Ring.pointsTo_blocks (ℓ := (c : Thread nD τ).loc cc0_scratch1) IS IS_disjoint IS_cover f))
  iexact H
theorem inRing_join : bigSep Finset.univ (freeI (F := F) c) ⊢ iprop(∃ f : Buf (Elt F) ((c : Thread nD τ).loc cc0_scratch1), ((c : Thread nD τ).loc cc0_scratch1) ↦{fullShare} f) := by
  rw [bigSep_congr (fun s _ => freeI_eq (F := F) c s)]
  exact Ring.pointsTo_blocks_join_exists (ℓ := (c : Thread nD τ).loc cc0_scratch1) IS IS_disjoint IS_cover inM.view.junk
theorem outRing_split : iprop(∃ f : Buf (Elt F) ((c : Thread nD τ).loc cc0_scratch2), ((c : Thread nD τ).loc cc0_scratch2) ↦{fullShare} f) ⊢ bigSep Finset.univ (freeO (F := F) c) := by
  rw [bigSep_congr (fun s _ => freeO_eq (F := F) c s)]
  iintro ⟨%f, H⟩
  iapply (bigSep_some (fun s f => ((c : Thread nD τ).loc cc0_scratch2) ↦[IS s]{fullShare} f) f)
  iapply (Entails.of_eq (Ring.pointsTo_blocks (ℓ := (c : Thread nD τ).loc cc0_scratch2) IS IS_disjoint IS_cover f))
  iexact H
theorem outRing_join : bigSep Finset.univ (freeO (F := F) c) ⊢ iprop(∃ f : Buf (Elt F) ((c : Thread nD τ).loc cc0_scratch2), ((c : Thread nD τ).loc cc0_scratch2) ↦{fullShare} f) := by
  rw [bigSep_congr (fun s _ => freeO_eq (F := F) c s)]
  exact Ring.pointsTo_blocks_join_exists (ℓ := (c : Thread nD τ).loc cc0_scratch2) IS IS_disjoint IS_cover ouM.view.junk
end Split

end Cert.Proof.Loop
-- ==== Proof.Run.lean ====
/-
  The launch: from the kernel function's body to a run of the whole program, which leaves the result at its values, the
  arguments as they were and every semaphore counter at zero.
-/
module

public import proofs.«01_k».proof.Proof.Cover
public import Idealize.ShloMosaic.Lib.VecWindow

@[expose] public section

noncomputable section

namespace Cert.Proof.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the result holds -/

/-- The segments' first tokens, as the kernel reads them. -/
abbrev loA (c : Dev nD) (t : Fin cfg0.N) : Vec F S16x1 .i32 := iblk m c 0 t
/-- The segments' ends. -/
abbrev hiA (c : Dev nD) (t : Fin cfg0.N) : Vec F S16x1 .i32 := iblk m c 1 t
abbrev gaA (c : Dev nD) (t : Fin cfg0.N) : Vec F S1x512 .f32 := iblk m c 2 t
abbrev beA (c : Dev nD) (t : Fin cfg0.N) : Vec F S1x512 .f32 := iblk m c 3 t

/-- Block `k` of the result. -/
abbrev outK (c : Dev nD) (t : Fin cfg0.N) (k : Fin 32) : Vec F S1x1024x512 .f32 := outBlk (V m c main_arg0) (loA m c t) (hiA m c t) (gaA m c t) (beA m c t) k
/-- The result. -/
abbrev resK (c : Dev nD) : Buf (Elt F) ((c : Thread nD τ).loc main_v0) := resultOf (outK m c t0_0)

theorem outK_eq (c : Dev nD) (t : Fin cfg0.N) :
    outV c (V m c main_arg0) (st0_0 t) (st0_1 t) ((st0_0 t).view.rep (iblk m c 0 t)) ((st0_1 t).view.rep (iblk m c 1 t)) (st0_2 t) (st0_3 t) ((st0_2 t).view.rep (iblk m c 2 t)) ((st0_3 t).view.rep (iblk m c 3 t))
      = outK m c t := by
  have h0 : loV c (st0_0 t) ((st0_0 t).view.rep (iblk m c 0 t)) = loA m c t := View.readAt_rep_full _ _ _
  have h1 : hiV c (st0_1 t) ((st0_1 t).view.rep (iblk m c 1 t)) = hiA m c t := View.readAt_rep_full _ _ _
  have h2 : rowV c (st0_2 t) ((st0_2 t).view.rep (iblk m c 2 t)) = gaA m c t := View.readAt_rep_full _ _ _
  have h3 : rowV c (st0_3 t) ((st0_3 t).view.rep (iblk m c 3 t)) = beA m c t := View.readAt_rep_full _ _ _
  unfold outV outK
  rw [h0, h1, h2, h3]

/-! ## The pipeline's proof data -/

/-- What the body keeps beside its operands. -/
def base0 (c : Dev nD) : sProp 𝕄 :=
  iprop(bigSep Finset.univ (homeP c (V m c main_arg0)) ∗ bigSep Finset.univ (icellP (F := F) c) ∗ bigSep Finset.univ (ocellP (F := F) c)
    ∗ bigSep Finset.univ (freeI (F := F) c) ∗ bigSep Finset.univ (freeO (F := F) c) ∗ (∃ f6, stgP (F := F) c f6) ∗ (∃ f9, sumP (F := F) c f9))

/-- Before the one point the result's blocks hold anything; after it, the result. -/
def Φ (c : Dev nD) : Nat → sProp 𝕄
  | 0 => iprop(base0 m c ∗ bigSep Finset.univ fun k => iprop(∃ f, outP (F := F) c k f))
  | _ + 1 => iprop(base0 m c ∗ bigSep Finset.univ fun k => outP (F := F) c k (resK m c))

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Φ m c t.val
  q _ := fullShare
  owed _ := 0

theorem before_0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_3 (c : Dev nD) (t : Fin cfg0.N) (d) : (dats m 0 c).before 3 t d = iblk m c 3 t := by
  unfold Dat.before; rw [if_pos (fetch0_3 t)]; unfold Dat.fetched Dat.blockOf iblk; dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

/-- Every block done is every block holding the result. -/
theorem done_all (c : Dev nD) : bigSep Finset.univ (doneO c (outK m c t0_0)) ⊢ bigSep Finset.univ fun k => outP (F := F) c k (resK m c) :=
  bigSep_mono fun k _ => done_eq c (outK m c t0_0) k

/-! ## The body obligation -/

/-- The table's one body, on the staging buffers of the point. -/
theorem defs_tc : (defs₀ (F := F)) .tc cfg0.body
    = fun a => cc0__fused_kernel (Memref.whole main_arg0) (Memref.isWhole_whole _) (win0_0.stage (a.2 0)) (hstage0_0 0) (win0_1.stage (a.2 1)) (hstage0_1 0) (win0_2.stage (a.2 2)) (hstage0_2 0) (win0_3.stage (a.2 3)) (hstage0_3 0) (Memref.whole main_v0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 := rfl
/-- and that is the loop form there. -/
theorem prog_loop (t : Fin cfg0.N) : (defs₀ (F := F)) .tc cfg0.body (cfg0.bodyArgs t (cfg0.slots t)) = bodyG (win0_0.stage (cfg0.slots t 0)) (win0_1.stage (cfg0.slots t 1)) (win0_2.stage (cfg0.slots t 2)) (win0_3.stage (cfg0.slots t 3)) :=
  (congrFun defs_tc _).trans (kernel_eq _ _ _ _ _ _ _ _ _ _ _ _ _ _ _ _ _ _ _ _ _ _)

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_0, before_1, before_2, before_3, after_0, after_1, after_2, after_3]
  have ht : t = t0_0 := fin_N0 t
  rw [show (dats m 0 c).Φ t.castSucc = Φ m c 0 from by subst ht; rfl, show (dats m 0 c).Φ t.succ = Φ m c 1 from by subst ht; rfl]
  unfold Dat.owesAt Pipeline.owesWithin
  rw [show (dats m 0 c).owed t.castSucc = 0 from rfl, show (dats m 0 c).owed t.succ = 0 from rfl]
  unfold owns Φ base0
  iintro ⟨⟨⟨Hh, Hic, Hoc, Hfi, Hfo, H6, H9⟩, Ho⟩, ⟨%W, -, HW⟩, ⟨%d0, %g0, %hg0, H0⟩, ⟨%d1, %g1, %hg1, H1⟩, ⟨%d2, %g2, %hg2, H2⟩, ⟨%d3, %g3, %hg3, H3⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  ihave H3' := (pointsTo_rep_entails (c : Thread nD τ) (st0_3 t) g3 fullShare) $$ H3
  rw [hg0, hg1, hg2, hg3]
  sl_rw [prog_loop t]
  iapply (wp_wand_r frame (wpE (defs₀ (F := F)) 𝒱₀ (c : Thread nD τ) none) Set.univ)
  isplitl [Hh Hic Hoc Hfi Hfo H6 H9 Ho HW H0' H1' H2' H3']
  · iapply (body_run c (V m c main_arg0) (st0_0 t) (st0_1 t) ((st0_0 t).view.rep (iblk m c 0 t)) ((st0_1 t).view.rep (iblk m c 1 t)) (st0_2 t) (st0_3 t) ((st0_2 t).view.rep (iblk m c 2 t)) ((st0_3 t).view.rep (iblk m c 3 t)))
    unfold kept
    isplitr [Ho]
    · isplitl [H0']; · iexact H0'
      isplitl [H1']; · iexact H1'
      isplitl [H2']; · iexact H2'
      isplitl [H3']; · iexact H3'
      isplitl [Hh]; · iexact Hh
      isplitl [Hic]; · iexact Hic
      isplitl [Hoc]; · iexact Hoc
      isplitl [Hfi]; · iexact Hfi
      isplitl [Hfo]; · iexact Hfo
      isplitl [H6]; · iexact H6
      isplitl [H9]; · iexact H9
      iexists W; iexact HW
    iexact Ho
  iintro %_ HK
  rw [outK_eq]
  unfold kept
  icases HK with ⟨⟨H0, H1, H2, H3, Hh, Hic, Hoc, Hfi, Hfo, H6, H9, ⟨%W', HW⟩⟩, Ho⟩
  isplitl [Hh Hic Hoc Hfi Hfo H6 H9 Ho]
  · isplitr [Ho]
    · isplitl [Hh]; · iexact Hh
      isplitl [Hic]; · iexact Hic
      isplitl [Hoc]; · iexact Hoc
      isplitl [Hfi]; · iexact Hfi
      isplitl [Hfo]; · iexact Hfo
      isplitl [H6]; · iexact H6
      iexact H9
    subst ht
    iapply (done_all m c)
    iexact Ho
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  isplitl [H2]
  · iexists _; isplitr; · ipureintro; exact View.read_rep _ _
    iexact H2
  iexists _; isplitr; · ipureintro; exact View.read_rep _ _
  iexact H3

/-! ## The run -/

/-- What the region takes in beside its operands' arrays. -/
def intoΦ (c : Dev nD) : sProp 𝕄 :=
  iprop((((c : Thread nD τ).loc main_arg0) ↦{fullShare} V m c main_arg0) ∗ (((c : Thread nD τ).loc main_v0) ↦{fullShare} V m c main_v0) ∗ Pipeline.ownSems0 osem c)
/-- What it gives back. -/
def outOfΦ (c : Dev nD) : sProp 𝕄 :=
  iprop((((c : Thread nD τ).loc main_arg0) ↦{fullShare} V m c main_arg0) ∗ ((c : Thread nD τ).loc main_v0) ↦{fullShare} resK m c)
/-- What passes beside it. -/
def beside (c : Dev nD) : sProp 𝕄 := ((c : Thread nD τ).loc main_arg1) ↦{fullShare} V m c main_arg1
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m 0 c).arrAt w cfg0.N
def QY (c : Dev nD) (s : MemSt nD τ sig (Elt F)) : Prop :=
  s.mem ((c : Thread nD τ).loc main_arg0) = V m c main_arg0 ∧ s.mem ((c : Thread nD τ).loc main_v0) = resK m c ∧ s.mem ((c : Thread nD τ).loc main_arg1) = V m c main_arg1
def QC : PUnit × MemSt nD τ sig (Elt F) → Prop := fun r =>
  ∀ c : Dev nD, (∀ w : Fin cfg0.W, r.2.mem ((cfg0.win w).arr.view.loc (c : Thread nD τ)) = finalA m c w) ∧ QY m c r.2

set_option backward.isDefEq.respectTransparency.types false in
set_option maxHeartbeats 1000000 in
/-- THE RUN: from any memory with zero counters, every fair execution ends with the result at its values, the arguments
    as they were and every counter at zero. -/
theorem run_main : θ_run defs (onTc (τ := τ) (main (F := F))) ⟨m, fun _ => 0, ρ⟩ (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := beside m)
    (hX := fun c => by
      rw [unscopedRest0_eq]
      unfold intoΦ beside
      iintro ⟨⟨H0, H1, -, -, -, Hv⟩, HS, -⟩; imodintro
      isplitl [H0 HS Hv]
      · isplitl [H0]; · iexact H0
        isplitl [Hv]; · iexact Hv
        iexact HS
      iexact H1)
    (hin := fun c => by
      rw [scopedRest0_eq, show (dats m 0 c).Φ 0 = Φ m c 0 from rfl]
      unfold intoΦ Φ base0; rw [ownSems0_eq, feat_eq, out_eq]
      iintro ⟨⟨H0, Hv, Hic, Hoc⟩, H6, H7, H8, H9⟩
      ihave Hs := (inRing_split c) $$ H7
      ihave Hs' := (outRing_split c) $$ H8
      isplitr [Hv]
      · isplitl [H0]; · iexact H0
        isplitl [Hic]; · iexact Hic
        isplitl [Hoc]; · iexact Hoc
        isplitl [Hs]; · iexact Hs
        isplitl [Hs']; · iexact Hs'
        isplitl [H6]; · iexact H6
        iexact H9
      iapply (bigSep_some (fun k f => outP (F := F) c k f) (V m c main_v0))
      iexact Hv)
    (hout := fun c => by
      rw [scopedRest0_eq, show (dats m 0 c).Φ (Fin.last cfg0.N) = Φ m c 1 from rfl, ownSems0_eq]
      unfold Φ base0 outOfΦ; rw [feat_eq, out_eq]
      iintro ⟨⟨H0, Hic, Hoc, Hfi, Hfo, H6, H9⟩, Hv⟩
      isplitl [H0 Hv]
      · isplitl [H0]; · iexact H0
        iexact Hv
      isplitl [Hic Hoc]
      · isplitl [Hic]; · iexact Hic
        iexact Hoc
      isplitl [H6]; · iexact H6
      isplitl [Hfi]; · iapply (inRing_join c); iexact Hfi
      isplitl [Hfo]; · iapply (outRing_join c); iexact Hfo
      iexact H9)
    (QY := QY m)
    (hY := fun c s' => by
      unfold outOfΦ beside
      iintro ⟨⟨H0, Hv⟩, H1, HSI⟩
      icombine HSI H0 gives %h0
      icombine HSI Hv gives %hv
      icombine HSI H1 gives %h1
      imodintro
      isplitr; · ipureintro; exact ⟨Buf.eq_of_forall_mem_univ h0, Buf.eq_of_forall_mem_univ hv, Buf.eq_of_forall_mem_univ h1⟩
      iexact HSI)
    (hQ := fun _ hh hz => ⟨hh, hz⟩)

theorem finalA_in (c : Dev nD) (w : Fin cfg0.W) (hw : (cfg0.win w).isOut = false) : finalA m c w = V m c (Pipeline.arrRef spec0 w) :=
  (dats (F := F) m 0 c).arrAt_in w hw _

/-- The run, by argument: the result at its values, every argument as launched, every counter at zero. -/
theorem run_args : θ_run defs (onTc (τ := τ) (main (F := F))) ⟨m, fun _ => 0, ρ⟩ (fun r =>
    (∀ c : Dev nD, r.2.mem ((c : Thread nD τ).loc main_v0) = resK m c
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
    ∧ r.2.sem = fun _ => 0) :=
  (θ_run defs _ _).mono (fun r hh => ⟨fun c =>
    have h := hh.1 c
    ⟨h.2.2.1, h.2.1.trans (V_main_arg0 m c), h.2.2.2.trans (V_main_arg1 m c), ((h.1 2).trans (finalA_in m c 2 rfl)).trans (V_main_arg2 m c),
      ((h.1 3).trans (finalA_in m c 3 rfl)).trans (V_main_arg3 m c)⟩, hh.2⟩) (run_main (F := F) m ρ)

end Cert.Proof.Loop
-- ==== Proof.Same.lean ====
/-
  The kernel on words and the kernel read over the reals are one program, printed in two namespaces: one run theorem, at
  any float values, serves both.
-/
module

public import proofs.«01_k».proof.Proof.Run
public import proofs.«01_k».proof.Proof.Gen.Kernel

@[expose] public section

set_option maxRecDepth 100000

noncomputable section

namespace Cert.Proof.Same

open Idealize.ShloMosaic Idealize.SL.Sem

variable {F : FTy → Type} [FloatOps F]

/-- The two programs around the kernel are one. -/
theorem main_eq : (Cert.Kernel.main (F := F)) = Cert.KernelIdeal.main (F := F) := by sl_kernel_rfl
/-- The two body tables are one. -/
theorem defs_eq : (Cert.Kernel.defs (F := F)) = Cert.KernelIdeal.defs (F := F) := by sl_kernel_rfl

/-- The run of the kernel on words: its arguments as launched, every counter at zero. -/
theorem run_args (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq, main_eq]
  exact (θ_run (Cert.KernelIdeal.defs (F := F)) _ _).mono (fun r hh => ⟨fun c => (hh.1 c).2, hh.2⟩) (Cert.Proof.Loop.run_args m g)

end Cert.Proof.Same
-- ==== Proof.Reference.lean ====
/-
  The run of the reference: a program of the host alone, with no semaphore, so that its counters are at zero throughout.
-/
module

public import proofs.«01_k».proof.Proof.Gen.ReferenceIdeal.Run
public import Idealize.ShloMosaic.Lib.Quiescent
public import Idealize.ShloMosaic.Lib.Claim

@[expose] public section

noncomputable section

namespace Cert.Proof.Reference

open Cert.ReferenceIdeal Cert.ReferenceIdeal.Gen
open Idealize.ShloMosaic Idealize.ShloMosaic.TcCoe Idealize.SL.Sem

variable {F : FTy → Type} [FloatOps F]

/-- The reference ends with its arguments as launched and every counter at zero. -/
theorem run_args (m : (ℓ : Loc nD τ sig) → Buf (Elt F) ℓ) (g : Dev nD → PrngReg) :
    θ_run defs (onTc (τ := τ) (main (F := F))) ⟨m, fun _ => 0, g⟩ (fun r => (∀ c : Dev nD,
      r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3))
      ∧ r.2.sem = fun _ => 0) :=
  (θ_run defs _ _).mono (fun r h => ⟨fun c => (h c).2, sem_eq_zero_of_no_sems rfl r.2⟩) (Value.run m g)

end Cert.Proof.Reference
-- ==== Proof.Segments.lean ====
/-
  The segments: with ascending offsets, token `i` lies in segment `b` — `b` offsets are `i` or less — exactly when it lies
  between the segment's first token and its end. The offsets' condition, read element by element.
-/
module

public import Idealize.ShloMosaic.Lib.Pointwise

@[expose] public section

noncomputable section

namespace Cert.Proof.Segments

open Idealize.ShloMosaic

/-- The sixteen offsets. -/
abbrev Offsets := (⟨1, ![16]⟩ : Shape).Idx → BitVec 32

variable (O : Offsets)

/-- Offset `j`, as a signed number. -/
def off (j : Fin 16) : ℤ := (O (ix1 j)).toInt

/-- The offsets ascend, and the last is the number of tokens or more. -/
structure Sorted : Prop where
  mono : ∀ j k : Fin 16, j ≤ k → off O j ≤ off O k
  last : 32768 ≤ off O 15

/-- The number of offsets that are `i` or less: the segment of token `i`. -/
def seg (i : ℕ) : ℕ := (Finset.univ.filter fun j : Fin 16 => off O j ≤ (i : ℤ)).card

/-- The first token of segment `b`, as the kernel has it. -/
def first (b : Fin 16) : BitVec 32 := if h : b.val = 0 then 0#32 else O (ix1 ⟨b.val - 1, by omega⟩)

variable {O}

/-- The offsets that are `i` or less are the first ones. -/
theorem off_le_iff (h : Sorted O) (i : ℕ) (j : Fin 16) : off O j ≤ (i : ℤ) ↔ j.val < seg O i := by
  constructor
  · intro hj
    have hs : Finset.Iic j ⊆ Finset.univ.filter fun j : Fin 16 => off O j ≤ (i : ℤ) := fun k hk =>
      Finset.mem_filter.mpr ⟨Finset.mem_univ _, (h.mono k j (Finset.mem_Iic.mp hk)).trans hj⟩
    have hc := Finset.card_le_card hs
    rw [Fin.card_Iic] at hc
    exact hc
  · intro hj
    by_contra hn
    have hs : (Finset.univ.filter fun j : Fin 16 => off O j ≤ (i : ℤ)) ⊆ Finset.Iio j := fun k hk => by
      rw [Finset.mem_Iio]
      by_contra hk'
      exact hn ((h.mono j k (not_lt.mp hk')).trans (Finset.mem_filter.mp hk).2)
    have hc := Finset.card_le_card hs
    rw [Fin.card_Iio] at hc
    exact absurd hj (not_lt.mpr hc)

/-- Every token lies in one of the sixteen segments. -/
theorem seg_lt (h : Sorted O) {i : ℕ} (hi : i < 32768) : seg O i < 16 := by
  have h15 : ¬ off O 15 ≤ (i : ℤ) := by
    have := h.last
    omega
  rw [off_le_iff h] at h15
  have : (15 : Fin 16).val = 15 := rfl
  omega

/-- Token `i` lies in segment `b` exactly between the segment's first token and its end. -/
theorem seg_eq_iff (h : Sorted O) (i : ℕ) (b : Fin 16) :
    ((first O b).toInt ≤ (i : ℤ) ∧ (i : ℤ) < off O b) ↔ seg O i = b.val := by
  have e1 : (i : ℤ) < off O b ↔ seg O i ≤ b.val := by
    rw [← not_le, off_le_iff h, not_lt]
  have e2 : (first O b).toInt ≤ (i : ℤ) ↔ b.val ≤ seg O i := by
    unfold first
    split
    · next h0 =>
      rw [h0]
      simp
    · next h0 =>
      have := off_le_iff h i ⟨b.val - 1, by omega⟩
      unfold off at this
      rw [this]
      show b.val - 1 < seg O i ↔ b.val ≤ seg O i
      omega
  rw [e1, e2]
  omega

/-- A token's number, as a signed word. -/
theorem toInt_token {n : ℕ} (hn : n < 32768) : (BitVec.ofNat 32 n).toInt = (n : ℤ) := by
  rw [BitVec.toInt_eq_toNat_of_lt (by simp; omega)]
  simp
  omega

/-! ## The values of the problem, over the extended reals -/

section Values
variable (X : (⟨2, ![32768, 512]⟩ : Shape).Idx → EReal) (O : Offsets)

/-- Channel `c` of token `i`. -/
def tok (i : ℕ) (c : Fin 512) : EReal := if h : i < 32768 then X (ix2 ⟨i, h⟩ c) else 0

theorem tok_eq (i : Fin 32768) (c : Fin 512) : tok X i.val c = X (ix2 i c) := dif_pos i.isLt

/-- What token `i` adds to segment `b`'s sum of squares: its square where it lies in `b`, else nothing. -/
def part (b : Fin 16) (c : Fin 512) (i : ℕ) : EReal := (if seg O i = b.val then 1 else 0) * (tok X i c * tok X i c)

/-- The sum of squares of segment `b`. -/
def sqSum (b : Fin 16) (c : Fin 512) : EReal := ∑ i : Fin 32768, part X O b c i.val

/-- The response of segment `b`: the root of its sum of squares. -/
def resp (b : Fin 16) (c : Fin 512) : EReal := Ideal.sqrt (sqSum X O b c)

/-- The mean response over the channels, and the small constant. -/
def denom (b : Fin 16) : EReal := Ideal.div (∑ c : Fin 512, resp X O b c) (Ideal.ofBits .f32 0x44000000#32) + Ideal.ofBits .f32 0x358637BD#32

/-- The normalized response. -/
def norm (b : Fin 16) (c : Fin 512) : EReal := Ideal.div (resp X O b c) (denom X O b)

/-- A sum over the tokens, block by block. -/
theorem sum_blocks (g : ℕ → EReal) : ∑ k ∈ Finset.range 32, ∑ t : Fin 1024, g (1024 * k + t.val) = ∑ i : Fin 32768, g i.val := by
  rw [Finset.sum_range fun k => ∑ t : Fin 1024, g (1024 * k + t.val), ← Fintype.sum_prod_type']
  refine Fintype.sum_equiv (finProdFinEquiv (m := 32) (n := 1024)) _ _ fun x => ?_
  show g _ = g (x.2.val + 1024 * x.1.val)
  rw [Nat.add_comm]

end Values

end Cert.Proof.Segments
-- ==== Proof.ReferenceValue.lean ====
/-
  What the reference computes over the extended reals, element by element: each token's segment, the segments' sums of
  squares by a scattered addition, the normalized responses, and the result.
-/
module

public import proofs.«01_k».proof.Proof.Reference
public import proofs.«01_k».proof.Proof.Segments
public import Idealize.ShloMosaic.Lib.Pointwise
public import Idealize.ShloMosaic.Lib.IdealHost
public import Idealize.ShloMosaic.Lib.WordCmp
public import Idealize.ShloMosaic.Lib.IndicatorCount
public import Idealize.ShloMosaic.Lib.Routing.Ops
public import Idealize.ShloMosaic.Lib.Routing.OpsPair

@[expose] public section

set_option maxRecDepth 16384

noncomputable section

namespace Cert.Proof.Reference

open Cert.ReferenceIdeal Cert.ReferenceIdeal.Facts₀
open Idealize.ShloMosaic Cert.Proof.Segments

/-- Each token's segment, as the reference counts it. -/
def segIds (O : IVec S16 32) : IVec S32768 32 :=
  Host.reduce IntOp.addi (extui 32 (cmpi .sle (broadcastInDim S32768x16 ![0, 1] bcast_S1x16_S32768x16_0_1 (broadcastInDim S1x16 ![1] bcast_S16_S1x16_1 O))
    (broadcastInDim S32768x16 ![0, 1] bcast_S32768x1_S32768x16_0_1 (broadcastInDim S32768x1 ![0] bcast_S32768_S32768x1_0 (iotaInDim S32768 32 0)))) natLt_1_32)
    (constantI S_ 32 0#32) reducesTo_S32768x16_S32768_d1 h_S_

/-- The segments' sums of squares, as the reference scatters them. -/
def sums (X : FVec Ideal S32768x512 .f32) (O : IVec S16 32) : FVec Ideal S16x512 .f32 :=
  Host.scatterAdd scatter_S16x512_S32768x1_S32768x512_1_0_0_1 (broadcastInDim S16x512 ![] bcast_S_S16x512 (constant S_ .f32 0x00000000#32))
    (broadcastInDim S32768x1 ![0] bcast_S32768_S32768x1_0 (segIds O)) (mulf X X)

/-- The normalized responses from the sums of squares. -/
def norms (s : FVec Ideal S16x512 .f32) : FVec Ideal S16x512 .f32 :=
  Host.divf (Host.sqrt s) (broadcastInDim S16x512 ![0, 1] bcast_S16x1_S16x512_0_1 (addf (Host.divf (broadcastInDim S16x1 ![0] bcast_S16_S16x1_0
    (Host.reduceAdd (Host.sqrt s) (constant S_ .f32 0x00000000#32) reducesTo_S16x512_S16_d1 h_S_)) (broadcastInDim S16x1 ![] bcast_S_S16x1 (constant S_ .f32 0x44000000#32)))
    (broadcastInDim S16x1 ![] bcast_S_S16x1 (constant S_ .f32 0x358637BD#32))))

/-- The segments by which the rows are taken: a negative one would be counted from the end. -/
def takeIds (O : IVec S16 32) : IVec S32768x1 32 :=
  broadcastInDim S32768x1 ![0] bcast_S32768_S32768x1_0 (select (cmpi .slt (segIds O) (broadcastInDim S32768 ![] bcast_S_S32768 (constantI S_ 32 0#32)))
    (addi (segIds O) (broadcastInDim S32768 ![] bcast_S_S32768 (constantI S_ 32 16#32))) (segIds O))

/-- The reference's result. -/
def out (X : FVec Ideal S32768x512 .f32) (O : IVec S16 32) (ga be : FVec Ideal S1x512 .f32) : FVec Ideal S32768x512 .f32 :=
  addf (addf X (mulf (broadcastInDim S32768x512 ![0, 1] bcast_S1x512_S32768x512_0_1 ga) (mulf X
    (Host.gather gather_S16x512_S32768x1_S32768x512_1_0_n_n_0_1_1512 (norms (sums X O)) (takeIds O)))))
    (broadcastInDim S32768x512 ![0, 1] bcast_S1x512_S32768x512_0_1 be)

/-- The reference runs, and its result is `out` of its arguments. -/
theorem run_out (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v33) = out (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  Cert.ReferenceIdeal.Value.run m g

/-- The reference's count of the offsets at or below a token is the token's segment. -/
theorem segIds_apply (O : IVec S16 32) (i : Fin 32768) : segIds O (ix1 i) = BitVec.ofNat 32 (seg O i.val) := by
  pointwise [segIds]
  rw [Idealize.ShloMosaic.IndicatorCount.fold_addi_setWidth_eq_card]
  congr 2
  ext j
  simp only [Finset.mem_filter, Finset.mem_univ, true_and]
  rw [WordCmp.cmpi_sle_eq, WordCmp.ofBool_decide_eq_one_iff, toInt_token i.isLt]
  rfl

/-- The row taken for a token is its segment's: the segment is not negative. -/
theorem takeIds_apply {O : IVec S16 32} (h : Sorted O) (i : Fin 32768) : takeIds O (ix2 i 0) = BitVec.ofNat 32 (seg O i.val) := by
  pointwise [takeIds]
  rw [segIds_apply, Routing.wrap_of_lt]
  have := seg_lt h i.isLt
  simp
  omega

/-- A normalized response: the response over the mean response plus the small constant. -/
theorem norms_apply (s : FVec Ideal S16x512 .f32) (b : Fin 16) (c : Fin 512) :
    norms s (ix2 b c) = Ideal.div (Ideal.sqrt (s (ix2 b c)))
      (Ideal.div (∑ c' : Fin 512, Ideal.sqrt (s (ix2 b c'))) (Ideal.ofBits .f32 0x44000000#32) + Ideal.ofBits .f32 0x358637BD#32) := by
  pointwise [norms]

/-- Where the scattered addition puts an update: row `idx i`, the update's own column. -/
theorem lands (idx : IVec S32768x1 32) (i : Fin 32768) (s : ℕ) (hs : s < 16) (hi : idx (ix2 i 0) = BitVec.ofNat 32 s) (c' : Fin 512) (b : Fin 16) (c : Fin 512) :
    (scatter_S16x512_S32768x1_S32768x512_1_0_0_1).resultIdx? (ix2 i c') idx = some (ix2 b c) ↔ s = b.val ∧ c' = c := by
  have hsi : ∀ q, (scatter_S16x512_S32768x1_S32768x512_1_0_0_1).siIdx (ix2 i c') q = ix2 i 0 := by
    intro q
    obtain ⟨q, hq⟩ := q
    obtain rfl : q = 0 := by
      have : q < 1 := hq
      omega
    funext a
    match a with
    | ⟨0, _⟩ => rfl
    | ⟨1, _⟩ => rfl
  have e0 : (scatter_S16x512_S32768x1_S32768x512_1_0_0_1).start (ix2 i c') idx 0 = (s : ℤ) := by
    unfold ScatterDims.start
    rw [dif_pos (by decide), hsi, hi, WordCmp.toInt_ofNat_of_lt (by omega)]
  have e1 : (scatter_S16x512_S32768x1_S32768x512_1_0_0_1).start (ix2 i c') idx 1 = 0 := by
    unfold ScatterDims.start
    rw [dif_neg (by decide)]
  have w0 : (scatter_S16x512_S32768x1_S32768x512_1_0_0_1).window (ix2 i c') 0 = 0 := by
    unfold ScatterDims.window
    rw [dif_neg (by decide)]
  have w1 : (scatter_S16x512_S32768x1_S32768x512_1_0_0_1).window (ix2 i c') 1 = c'.val := by
    unfold ScatterDims.window
    rw [dif_pos (by decide)]
    rfl
  rw [ix2_eq_valueIdx b c, Routing.resultIdx?_ix2, e0, e1, w0, w1, Fin.ext_iff]
  omega

/-- A scattered addition at an index: the operand there and the updates that land there. -/
theorem scatter_apply {s si u : Shape} (d : ScatterDims s si u) (z : FVec Ideal s .f32) (idx : IVec si 32) (upd : FVec Ideal u .f32) (k : s.Idx) :
    Host.scatterAdd d z idx upd k = z k + ∑ j ∈ Finset.univ.filter (fun j => d.resultIdx? j idx = some k), upd j := rfl

/-- The segments' sums of squares are the sums over the tokens of each segment. -/
theorem sums_apply (X : FVec Ideal S32768x512 .f32) {O : IVec S16 32} (h : Sorted O) (b : Fin 16) (c : Fin 512) :
    sums X O (ix2 b c) = sqSum X O b c := by
  have hid : ∀ i : Fin 32768, broadcastInDim S32768x1 ![0] bcast_S32768_S32768x1_0 (segIds O) (ix2 i 0) = BitVec.ofNat 32 (seg O i.val) := by
    intro i
    rw [← segIds_apply]
    generalize segIds O = q
    pointwise
  have h0 : broadcastInDim S16x512 ![] bcast_S_S16x512 (constant (F := Ideal) S_ .f32 0x00000000#32) (ix2 b c) = 0 := by pointwise
  unfold sums
  generalize broadcastInDim S32768x1 ![0] bcast_S32768_S32768x1_0 (segIds O) = idx at hid
  rw [scatter_apply, h0, zero_add, Finset.sum_filter, sum_idx2]
  unfold sqSum
  refine Finset.sum_congr rfl fun i _ => ?_
  simp only [lands idx i _ (seg_lt h i.isLt) (hid i)]
  unfold part
  rw [tok_eq]
  by_cases e : seg O i.val = b.val
  · simp [e, mulf]
  · simp [e]

/-- The rows taken: row `i` of the result is the row the index names. -/
theorem gather_apply (x : FVec Ideal S16x512 .f32) (idx : IVec S32768x1 32) (i : Fin 32768) (c : Fin 512) (b : Fin 16) (hb : idx (ix2 i 0) = BitVec.ofNat 32 b.val) :
    Host.gather gather_S16x512_S32768x1_S32768x512_1_0_n_n_0_1_1512 x idx (ix2 i c) = x (ix2 b c) := by
  have := Routing.gather_row gather_S16x512_S32768x1_S32768x512_1_0_n_n_0_1_1512 rfl rfl rfl rfl rfl x idx i c b
  simp only [← ix2_eq_valueIdx] at this
  exact this hb (by decide)

/-- **The reference at an index.** In segment `b`, a token gives itself, plus the weight times its product with the segment's normalized response, plus the bias. -/
theorem out_apply (X : FVec Ideal S32768x512 .f32) {O : IVec S16 32} (h : Sorted O) (ga be : FVec Ideal S1x512 .f32) (i : Fin 32768) (c : Fin 512)
    (b : Fin 16) (hb : seg O i.val = b.val) :
    out X O ga be (ix2 i c) = X (ix2 i c) + ga (ix2 0 c) * (X (ix2 i c) * norm X O b c) + be (ix2 0 c) := by
  have e : Host.gather gather_S16x512_S32768x1_S32768x512_1_0_n_n_0_1_1512 (norms (sums X O)) (takeIds O) (ix2 i c) = norm X O b c := by
    rw [gather_apply _ _ _ _ b (by rw [takeIds_apply h, hb]), norms_apply]
    simp only [sums_apply X h]
    rfl
  unfold out
  generalize Host.gather gather_S16x512_S32768x1_S32768x512_1_0_n_n_0_1_1512 (norms (sums X O)) (takeIds O) = G at e ⊢
  rw [← e]
  pointwise

end Cert.Proof.Reference
-- ==== Proof.KernelValue.lean ====
/-
  What the kernel's buffers hold over the extended reals, element by element: the membership table, the sums of squares
  after each block, the scales, and an element of the result.
-/
module

public import proofs.«01_k».proof.Proof.Body
public import proofs.«01_k».proof.Proof.Segments
public import Idealize.ShloMosaic.Lib.Pointwise
public import Idealize.ShloMosaic.Lib.IdealHost
public import Idealize.ShloMosaic.Lib.WordCmp

@[expose] public section

set_option maxRecDepth 16384

noncomputable section

namespace Cert.Proof.Loop

open Cert.KernelIdeal Cert.KernelIdeal.Gen
open Idealize.ShloMosaic Cert.Proof.Segments

/-- A one-bit word, widened and read as an extended real, is one where it is set, else zero. -/
theorem bit_value (p q : Prop) [Decidable p] [Decidable q] :
    (FloatOps.sitofp (F := Ideal) .f32 ((IntOp.andi (BitVec.ofBool (decide p)) (BitVec.ofBool (decide q))).setWidth 32) : EReal) = if p ∧ q then 1 else 0 := by
  by_cases hp : p <;> by_cases hq : q <;> simp [hp, hq, IntOp.andi, FloatOps.sitofp]

/-- An entry of the membership table. -/
theorem member_apply (k : Fin 32) (lo hi : Vec Ideal S16x1 .i32) (b : Fin 16) (t : Fin 1024) :
    member k lo hi (ix2 b t) = if (lo (ix2 b 0)).toInt ≤ ((1024 * k.val + t.val : ℕ) : ℤ) ∧ ((1024 * k.val + t.val : ℕ) : ℤ) < (hi (ix2 b 0)).toInt then (1 : EReal) else 0 := by
  pointwise [member]
  have e : IntOp.addi (base k) (BitVec.ofNat 32 t.val) = BitVec.ofNat 32 (1024 * k.val + t.val) := (BitVec.ofNat_add _ _).symm
  rw [e, WordCmp.cmpi_sge_eq, WordCmp.cmpi_slt_eq, toInt_token (by omega)]
  exact bit_value _ _

/-- Element (t, c) of a block, squeezed. -/
theorem accNext_apply (k : Fin 32) (f : Vec Ideal S1x1024x512 .f32) (lo hi : Vec Ideal S16x1 .i32) (s : Vec Ideal S16x512 .f32) (b : Fin 16) (c : Fin 512) :
    accNext k f lo hi s (ix2 b c) = s (ix2 b c) + ∑ t : Fin 1024, member k lo hi (ix2 b t) * (f (ix3 0 t c) * f (ix3 0 t c)) := by
  pointwise [accNext]

theorem accZero_apply (b : Fin 16) (c : Fin 512) : (accZero (F := Ideal)) (ix2 b c) = 0 := by
  pointwise [accZero]

theorem stgNext_apply (f : Vec Ideal S1x1024x512 .f32) (t : Fin 1024) (c : Fin 512) : stgNext f (ix3 0 t c) = f (ix3 0 t c) := by
  pointwise [stgNext]

theorem scaleOf_apply (s : Vec Ideal S16x512 .f32) (g : Vec Ideal S1x512 .f32) (b : Fin 16) (c : Fin 512) :
    scaleOf s g (ix2 b c) = g (ix2 0 c) * Ideal.div (Ideal.sqrt (s (ix2 b c)))
      (Ideal.div (∑ c' : Fin 512, Ideal.sqrt (s (ix2 b c'))) (Ideal.ofBits .f32 0x44000000#32) + Ideal.ofBits .f32 0x358637BD#32) := by
  pointwise [scaleOf]

theorem outNext_apply (k : Fin 32) (f : Vec Ideal S1x1024x512 .bf16) (lo hi : Vec Ideal S16x1 .i32) (s : Vec Ideal S16x512 .f32) (be : Vec Ideal S1x512 .f32)
    (t : Fin 1024) (c : Fin 512) :
    outNext k f lo hi s be (ix3 0 t c) = f (ix3 0 t c) * (1 + ∑ b : Fin 16, member k lo hi (ix2 b t) * s (ix2 b c)) + be (ix2 0 c) := by
  pointwise [outNext]

/-! ## The values, from the segments -/

section Values
variable (X : Vec Ideal S32768x512 .f32) (O : Offsets) (lo hi : Vec Ideal S16x1 .i32) (ga be : Vec Ideal S1x512 .f32)

/-- The kernel's two columns hold each segment's first token and its end. -/
structure Columns : Prop where
  sorted : Sorted O
  lo : ∀ b : Fin 16, lo (ix2 b 0) = first O b
  hi : ∀ b : Fin 16, hi (ix2 b 0) = O (ix1 b)

variable {X O lo hi ga be}

/-- An entry of the membership table says whether the token lies in the segment. -/
theorem member_seg (h : Columns O lo hi) (k : Fin 32) (b : Fin 16) (t : Fin 1024) :
    member k lo hi (ix2 b t) = if seg O (1024 * k.val + t.val) = b.val then (1 : EReal) else 0 := by
  rw [member_apply, h.lo, h.hi]
  exact if_congr (seg_eq_iff h.sorted _ b) rfl rfl

/-- Element (t, c) of a block of the tokens. -/
theorem tokBlk_apply (k : Fin 32) (t : Fin 1024) (c : Fin 512) : tokBlk (F := Ideal) X k (ix3 0 t c) = tok X (1024 * k.val + t.val) c := by
  have hi : 1024 * k.val + t.val < 32768 := by omega
  pointwise [tokBlk]
  unfold tok
  rw [dif_pos hi]
  refine congrArg X (funext fun a => Fin.ext ?_)
  match a with
  | ⟨0, _⟩ =>
    show 1024 * k.val + 1 * t.val = 1024 * k.val + t.val
    omega
  | ⟨1, _⟩ =>
    show 0 + 1 * c.val = c.val
    omega

/-- The sums after `n` blocks. -/
theorem sumsAt_apply (h : Columns O lo hi) (b : Fin 16) (c : Fin 512) : ∀ n : ℕ, n ≤ 32 →
    sumsAt X lo hi n (ix2 b c) = ∑ k ∈ Finset.range n, ∑ t : Fin 1024, part X O b c (1024 * k + t.val)
  | 0, _ => accZero_apply b c
  | n + 1, hn => by
    have hk : (bk n).val = n := Nat.mod_eq_of_lt (by omega)
    rw [Finset.sum_range_succ, ← sumsAt_apply h b c n (by omega)]
    show accNext (bk n) (tokBlk X (bk n)) lo hi (sumsAt X lo hi n) (ix2 b c) = _
    rw [accNext_apply]
    congr 1
    refine Finset.sum_congr rfl fun t _ => ?_
    rw [member_seg h, tokBlk_apply, hk]
    rfl

/-- The sums after the last block are the segments' sums of squares. -/
theorem sums_eq (h : Columns O lo hi) (b : Fin 16) (c : Fin 512) : sumsAt X lo hi 32 (ix2 b c) = sqSum X O b c := by
  rw [sumsAt_apply h b c 32 le_rfl]
  exact sum_blocks _

/-- The scales are `gamma` times the normalized responses. -/
theorem scales_apply (h : Columns O lo hi) (b : Fin 16) (c : Fin 512) : scales X lo hi ga (ix2 b c) = ga (ix2 0 c) * norm X O b c := by
  unfold scales
  rw [scaleOf_apply]
  simp only [sums_eq h]
  rfl

/-- An element of a block of the result. -/
theorem outBlk_apply (h : Columns O lo hi) (k : Fin 32) (t : Fin 1024) (c : Fin 512) (b : Fin 16) (hb : seg O (1024 * k.val + t.val) = b.val) :
    outBlk X lo hi ga be k (ix3 0 t c) = tok X (1024 * k.val + t.val) c * (1 + ga (ix2 0 c) * norm X O b c) + be (ix2 0 c) := by
  unfold outBlk
  rw [outNext_apply, stgNext_apply, tokBlk_apply]
  congr 3
  rw [Finset.sum_eq_single b]
  · rw [member_seg h, if_pos hb, one_mul, scales_apply h]
  · intro b' _ hne
    rw [member_seg h, if_neg fun e => hne (Fin.ext (e.symm.trans hb)), zero_mul]
  · exact fun hn => absurd (Finset.mem_univ b) hn

/-- An element of the result. -/
theorem result_apply (h : Columns O lo hi) (i : Fin 32768) (c : Fin 512) (b : Fin 16) (hb : seg O i.val = b.val) :
    resultOf (outBlk X lo hi ga be) (ix2 i c) = X (ix2 i c) * (1 + ga (ix2 0 c) * norm X O b c) + be (ix2 0 c) := by
  have e : 1024 * (i.val / 1024) + i.val % 1024 = i.val := Nat.div_add_mod _ _
  have h1 := outBlk_apply (X := X) (ga := ga) (be := be) h ⟨i.val / 1024, by omega⟩ ⟨i.val % 1024, Nat.mod_lt _ (by decide)⟩ c b (by rw [e]; exact hb)
  simp only [e, tok_eq] at h1
  rw [← h1]
  pointwise [resultOf, outFlat]
end Values

end Cert.Proof.Loop
-- ==== Proof.Inputs.lean ====
/-
  What the kernel's windows hold when the launch begins, and what the precondition says of the offsets: the offsets do not
  fall, and the last of them is past every token.
-/
module

public import proofs.«01_k».proof.Proof.KernelValue
public import proofs.«01_k».proof.Proof.Run
public import proofs.«01_k».proof.Proof.Gen.Pre_sorted_offsets
public import Idealize.ShloMosaic.Lib.StableHlo.ReadAt
public import Idealize.ShloMosaic.Lib.Pipeline.ValueKit
public import Idealize.ShloMosaic.Lib.Pointwise
public import Idealize.ShloMosaic.Lib.WordCmp
public import Idealize.ShloMosaic.Lib.Affine

@[expose] public section

set_option maxRecDepth 16384

noncomputable section

namespace Cert.Proof.Loop

open Cert.KernelIdeal Cert.KernelIdeal.Gen
open Idealize.ShloMosaic Idealize.ShloMosaic.TcCoe Cert.Proof.Segments

variable (m : (ℓ : Loc nD τ sig) → Buf (Elt Ideal) ℓ)

/-- Each window is its whole array. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The weights' window holds the weights. -/
theorem gaA_eq (c : Dev nD) : gaA m c t0_0 = m ((c : Thread nD τ).loc main_arg2) := by
  rw [← V_main_arg2 m c]
  blk_ext! [iblk, idx t0_0]

/-- The biases' window holds the biases. -/
theorem beA_eq (c : Dev nD) : beA m c t0_0 = m ((c : Thread nD τ).loc main_arg3) := by
  rw [← V_main_arg3 m c]
  blk_ext! [iblk, idx t0_0]

/-- The ends' window holds the offsets, one to a row. -/
theorem hiA_apply (c : Dev nD) (b : Fin 16) : hiA m c t0_0 (ix2 b 0) = (m ((c : Thread nD τ).loc main_arg1) : Offsets) (ix1 b) := by
  have e : hiA m c t0_0 = V m c main_call0_v0 := by blk_ext! [iblk, idx t0_0]
  rw [e]
  unfold V
  after_reads_at

/-- The first tokens' window holds zero and then all offsets but the last. -/
theorem loA_apply (c : Dev nD) (b : Fin 16) : loA m c t0_0 (ix2 b 0) = first (m ((c : Thread nD τ).loc main_arg1)) b := by
  have e : loA m c t0_0 = V m c main_call0_v3 := by blk_ext! [iblk, idx t0_0]
  rw [e]
  unfold V first
  after_reads_at
  by_cases hb : b.val = 0
  · rw [dif_pos (by omega), dif_pos hb]
    after_reads_at
  · rw [dif_neg (by omega), dif_neg hb]
    after_reads_at

/-- The kernel's two columns are the segments' first tokens and ends. -/
theorem columns (c : Dev nD) (h : Sorted (m ((c : Thread nD τ).loc main_arg1))) : Columns (m ((c : Thread nD τ).loc main_arg1)) (loA m c t0_0) (hiA m c t0_0) :=
  ⟨h, loA_apply m c, hiA_apply m c⟩

end Cert.Proof.Loop

namespace Cert.Proof.Pre

open Cert.Pre_sorted_offsets
open Idealize.ShloMosaic Cert.Proof.Segments

/-- Bits join to one exactly when each is one. -/
theorem join_eq_one {ι : Type} [DecidableEq ι] (S : Finset ι) (p : ι → BitVec 1) : S.fold IntOp.andi 1#1 p = 1#1 ↔ ∀ k ∈ S, p k = 1#1 := by
  induction S using Finset.induction_on with
  | empty => simp
  | insert a S ha ih =>
    rw [Finset.fold_insert ha, IntOp.andi_eq_one, ih]
    simp

/-- Under the precondition the offsets do not fall, and the last is at least the number of tokens. -/
theorem sorted (X : FVec Ideal S32768x512 .f32) (O : IVec S16 32) (ga be : FVec Ideal S1x512 .f32)
    (h : fn (F := Ideal) X O ga be = fun _ => 1#1) : Sorted O := by
  have h1 := congrFun h ix0
  unfold fn at h1
  pointwise at h1
  rw [IntOp.andi_eq_one, join_eq_one] at h1
  obtain ⟨hs, hl⟩ := h1
  have step : ∀ n (hn : n + 1 < 16), off O ⟨n, by omega⟩ ≤ off O ⟨n + 1, hn⟩ := by
    intro n hn
    have := hs ⟨n, by omega⟩ (Finset.mem_univ _)
    rw [WordCmp.cmpi_sge_eq, WordCmp.ofBool_decide_eq_one_iff] at this
    have e : (⟨1 + n, by omega⟩ : Fin 16) = ⟨n + 1, hn⟩ := Fin.ext (Nat.add_comm _ _)
    unfold off
    rw [← e]
    exact this
  rw [WordCmp.cmpi_sge_eq, WordCmp.ofBool_decide_eq_one_iff] at hl
  have hmono : ∀ j k : ℕ, (hjk : j ≤ k) → (hk : k < 16) → off O ⟨j, by omega⟩ ≤ off O ⟨k, hk⟩ := by
    intro j k hjk
    induction k, hjk using Nat.le_induction with
    | base => exact fun _ => le_rfl
    | succ k hjk ih => exact fun hk => (ih (by omega)).trans (step k hk)
  exact ⟨fun j k hjk => hmono j k hjk k.isLt, hl⟩

end Cert.Proof.Pre

end
-- ==== Proof.Extended.lean ====
/-
  The arithmetic of the extended reals that the equation needs: a response divided by a mean that contains it is a real
  number, zero where the response is infinite; a token's scaling may then be taken apart, `f (1 + g r) = f + g (f r)`,
  whatever the token and the scale are.
-/
module

public import Idealize.ShloMosaic.Lib.Pointwise
public import Idealize.ShloMosaic.Lib.IdealHost

@[expose] public section

noncomputable section

namespace Cert.Proof.Extended

open Idealize.ShloMosaic

/-- A square is not negative. -/
theorem mul_self_nonneg (x : EReal) : 0 ≤ x * x := by
  induction x with
  | bot => simp
  | top => simp
  | coe x => exact_mod_cast _root_.mul_self_nonneg x

/-- A square root of a number that is not negative is not negative. -/
theorem sqrt_nonneg {x : EReal} (h : 0 ≤ x) : 0 ≤ Ideal.sqrt x := by
  induction x with
  | bot => simp at h
  | top => exact le_top
  | coe x =>
    have hx : ¬ x < 0 := not_lt.mpr (by exact_mod_cast h)
    show (0 : EReal) ≤ if x < 0 then ⊥ else (Real.sqrt x : EReal)
    rw [if_neg hx]
    exact_mod_cast Real.sqrt_nonneg x

/-- The quotient of `q` by a positive `d`, where `d` is infinite if `q` is: a real number that is not negative, and zero for
    an infinite `q`. -/
theorem div_real {q d : EReal} (hq : 0 ≤ q) (hd : 0 < d) (hqd : q = ⊤ → d = ⊤) :
    ∃ r : ℝ, 0 ≤ r ∧ Ideal.div q d = (r : EReal) ∧ (q = ⊤ → r = 0) := by
  have e : Ideal.div q d = q * d⁻¹ := by unfold Ideal.div; rw [if_neg hd.ne']
  rw [e]
  induction d with
  | bot => simp at hd
  | top => exact ⟨0, le_rfl, by simp, fun _ => rfl⟩
  | coe d =>
    induction q with
    | bot => simp at hq
    | top => exact absurd (hqd rfl) (EReal.coe_ne_top d)
    | coe q =>
      have hd' : 0 < d := by exact_mod_cast hd
      have hq' : 0 ≤ q := by exact_mod_cast hq
      refine ⟨q * d⁻¹, mul_nonneg hq' (inv_nonneg.mpr hd'.le), ?_, fun h => absurd h (EReal.coe_ne_top q)⟩
      rw [← EReal.coe_inv, ← EReal.coe_mul]

/-- The scaling taken apart: `f (1 + g r) = f + g (f r)`, for a real `r` that is not negative and is zero if `f` is infinite. -/
theorem scale_apart (f g : EReal) {r : ℝ} (hr : 0 ≤ r) (hf : f = ⊤ ∨ f = ⊥ → r = 0) :
    f * (1 + g * (r : EReal)) = f + g * (f * (r : EReal)) := by
  rcases hr.eq_or_lt with h0 | h0
  · subst h0
    simp
  · have hft : f ≠ ⊤ := fun h => h0.ne' (hf (.inl h))
    have hfb : f ≠ ⊥ := fun h => h0.ne' (hf (.inr h))
    induction f with
    | bot => exact absurd rfl hfb
    | top => exact absurd rfl hft
    | coe f =>
      have hone : (1 : EReal) = ((1 : ℝ) : EReal) := rfl
      induction g with
      | coe g =>
        rw [hone]
        norm_cast
        ring
      | top =>
        rw [EReal.top_mul_coe_of_pos h0, hone, EReal.coe_add_top, ← EReal.coe_mul]
        rcases lt_trichotomy f 0 with h | h | h
        · rw [EReal.coe_mul_top_of_neg h, EReal.top_mul_coe_of_neg (mul_neg_of_neg_of_pos h h0), EReal.add_bot]
        · subst h; simp
        · rw [EReal.coe_mul_top_of_pos h, EReal.top_mul_coe_of_pos (mul_pos h h0), EReal.coe_add_top]
      | bot =>
        rw [EReal.bot_mul_coe_of_pos h0, hone, EReal.add_bot, ← EReal.coe_mul]
        rcases lt_trichotomy f 0 with h | h | h
        · rw [EReal.coe_mul_bot_of_neg h, EReal.bot_mul_coe_of_neg (mul_neg_of_neg_of_pos h h0), EReal.coe_add_top]
        · subst h; simp
        · rw [EReal.coe_mul_bot_of_pos h, EReal.bot_mul_coe_of_pos (mul_pos h h0), EReal.add_bot]

end Cert.Proof.Extended
-- ==== Proof.Equation.lean ====
/-
  The kernel scales a token by one plus the weighted normalized response; the reference adds the token and its weighted
  product with the normalized response. The two agree over the extended reals, infinite tokens and weights included: a
  normalized response is a real number, and it is zero where a token of its segment is infinite.
-/
module

public import proofs.«01_k».proof.Proof.Segments
public import proofs.«01_k».proof.Proof.Extended

@[expose] public section

noncomputable section

namespace Cert.Proof.Segments

open Idealize.ShloMosaic Cert.Proof.Extended

/-- The number of channels. -/
theorem channels_eq : Ideal.ofBits .f32 0x44000000#32 = ((512 : ℝ) : EReal) := by
  simp [Ideal.ofBits, Ideal.ieee, -EReal.coe_mul]; norm_num

/-- The small constant. -/
theorem small_eq : Ideal.ofBits .f32 0x358637BD#32 = ((8796093 / 8796093022208 : ℝ) : EReal) := by
  simp [Ideal.ofBits, Ideal.ieee, -EReal.coe_mul]; norm_num

variable (X : (⟨2, ![32768, 512]⟩ : Shape).Idx → EReal) (O : Offsets)

/-- What a token adds is not negative. -/
theorem part_nonneg (b : Fin 16) (c : Fin 512) (i : ℕ) : 0 ≤ part X O b c i := by
  unfold part
  split
  · rw [one_mul]; exact mul_self_nonneg _
  · rw [zero_mul]

/-- A sum of squares is not negative. -/
theorem sqSum_nonneg (b : Fin 16) (c : Fin 512) : 0 ≤ sqSum X O b c := Finset.sum_nonneg fun i _ => part_nonneg X O b c i.val

/-- A response is not negative. -/
theorem resp_nonneg (b : Fin 16) (c : Fin 512) : 0 ≤ resp X O b c := sqrt_nonneg (sqSum_nonneg X O b c)

/-- The mean's sum is not negative. -/
theorem total_nonneg (b : Fin 16) : 0 ≤ ∑ c : Fin 512, resp X O b c := Finset.sum_nonneg fun c _ => resp_nonneg X O b c

/-- A quotient by the number of channels. -/
theorem div_channels (s : EReal) : Ideal.div s (Ideal.ofBits .f32 0x44000000#32) = s * (((512 : ℝ)⁻¹ : ℝ) : EReal) := by
  rw [channels_eq]
  unfold Ideal.div
  rw [if_neg (by norm_cast), ← EReal.coe_inv]

/-- The denominator is positive. -/
theorem denom_pos (b : Fin 16) : 0 < denom X O b := by
  unfold denom
  rw [div_channels, small_eq]
  refine lt_of_lt_of_le (b := ((8796093 / 8796093022208 : ℝ) : EReal)) (by norm_cast; norm_num) ?_
  refine le_add_of_nonneg_left (mul_nonneg (total_nonneg X O b) ?_)
  norm_cast
  norm_num

/-- Where a response is infinite the mean is too. -/
theorem denom_top (b : Fin 16) (c : Fin 512) (h : resp X O b c = ⊤) : denom X O b = ⊤ := by
  have ht : ∑ c : Fin 512, resp X O b c = ⊤ :=
    top_le_iff.mp (h ▸ Finset.single_le_sum (f := fun c => resp X O b c) (fun c _ => resp_nonneg X O b c) (Finset.mem_univ c))
  unfold denom
  rw [div_channels, ht, small_eq, EReal.top_mul_coe_of_pos (by norm_num), EReal.top_add_coe]

/-- Where a token of the segment is infinite the response is. -/
theorem resp_top (b : Fin 16) (c : Fin 512) (i : Fin 32768) (hb : seg O i.val = b.val) (h : X (ix2 i c) = ⊤ ∨ X (ix2 i c) = ⊥) : resp X O b c = ⊤ := by
  have hp : part X O b c i.val = ⊤ := by
    unfold part
    rw [if_pos hb, one_mul, tok_eq]
    rcases h with h | h <;> rw [h] <;> rfl
  have hs : sqSum X O b c = ⊤ :=
    top_le_iff.mp (hp ▸ Finset.single_le_sum (f := fun i : Fin 32768 => part X O b c i.val) (fun i _ => part_nonneg X O b c i.val) (Finset.mem_univ i))
  unfold resp
  rw [hs]
  rfl

/-- The kernel's scaling is the reference's sum. -/
theorem scale_eq (b : Fin 16) (c : Fin 512) (i : Fin 32768) (hb : seg O i.val = b.val) (g : EReal) :
    X (ix2 i c) * (1 + g * norm X O b c) = X (ix2 i c) + g * (X (ix2 i c) * norm X O b c) := by
  obtain ⟨r, hr, he, h0⟩ := div_real (resp_nonneg X O b c) (denom_pos X O b) (denom_top X O b c)
  unfold norm
  rw [he]
  exact scale_apart _ g hr fun h => h0 (resp_top X O b c i hb h)

end Cert.Proof.Segments

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sorted_offsets
public import proofs.«01_k».proof.Proof.Same
public import proofs.«01_k».proof.Proof.Reference
public import proofs.«01_k».proof.Proof.ReferenceValue
public import proofs.«01_k».proof.Proof.Inputs
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel on words: it ends, its arguments unchanged, every counter at zero. -/
theorem kernel_frame : Cert.quiescent_Kernel := fun m g _ => Same.run_args m g

/-- The kernel over the extended reals, likewise. -/
theorem ideal_frame : Cert.quiescent_KernelIdeal := fun m g _ =>
  (θ_run _ _ _).mono (fun _ h => ⟨fun c => (h.1 c).2, h.2⟩) (Loop.run_args m g)

/-- The reference over the extended reals, likewise. -/
theorem reference_frame : Cert.quiescent_ReferenceIdeal := fun m g _ => Reference.run_args m g

/-- Every index of the result is a token and a channel. -/
theorem index_eq (k : (⟨2, ![32768, 512]⟩ : Shape).Idx) : ∃ (i : Fin 32768) (c : Fin 512), k = ix2 i c :=
  ⟨k 0, k 1, funext fun a => by match a with | ⟨0, _⟩ => rfl | ⟨1, _⟩ => rfl⟩

/-- Where the offsets are sorted and reach past every token, the kernel's result is the reference's. -/
theorem values_eq (m : (ℓ : Loc Cert.KernelIdeal.nD Cert.KernelIdeal.τ Cert.KernelIdeal.sig) → Buf (Elt Ideal) ℓ) (c : Dev Cert.KernelIdeal.nD)
    (h : Segments.Sorted (m ((c.tc : Thread Cert.KernelIdeal.nD Cert.KernelIdeal.τ).loc Cert.KernelIdeal.main_arg1))) :
    Reference.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = Loop.resK m c := by
  funext k
  obtain ⟨i, ch, rfl⟩ := index_eq k
  have hb := Segments.seg_lt h i.isLt
  have hk := Loop.result_apply (X := Cert.KernelIdeal.Gen.V m c Cert.KernelIdeal.main_arg0) (ga := Loop.gaA m c Cert.KernelIdeal.Gen.t0_0) (be := Loop.beA m c Cert.KernelIdeal.Gen.t0_0)
    (Loop.columns m c h) i ch ⟨_, hb⟩ rfl
  refine (Reference.out_apply _ h _ _ i ch ⟨_, hb⟩ rfl).trans (Eq.trans ?_ hk.symm)
  rw [Loop.gaA_eq, Loop.beA_eq, Cert.KernelIdeal.Gen.V_main_arg0, Segments.scale_eq _ _ ⟨_, hb⟩ ch i rfl]

/-- The kernel over the extended reals and the reference give one result, where the offsets are sorted and reach past every token. -/
theorem algebraic : Cert.algebraic_KernelIdeal_ReferenceIdeal_pre_sorted_offsets := by
  intro m g m' g' hpre hargs
  refine ⟨fun c => Loop.resK m c, (θ_run _ _ _).mono (fun _ h => h.1) (Loop.run_args m g), ?_⟩
  refine (θ_run _ _ _).mono (fun r h c => ⟨(h c).1.trans ?_, (h c).2⟩) (Reference.run_out m' g')
  obtain ⟨e0, e1, e2, e3⟩ := hargs c
  rw [e0, e1, e2, e3]
  exact values_eq m c (Pre.sorted _ _ _ _ (hpre c))

theorem claim : Cert.Claim := ⟨Cert.Kernel.Gen.facts, Cert.KernelIdeal.Gen.facts, Cert.ReferenceIdeal.Gen.facts, Cert.Pre_sorted_offsets.Gen.facts,
  kernel_frame, ideal_frame, fun m g _ => ideal_frame m g trivial, reference_frame, fun m g _ => reference_frame m g trivial, trivial, algebraic⟩

end Cert.Proof

end
